-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S16x2x256 Cert.KernelIdeal.S16x1x256
  ∧ IdealRules.bf16_pair.BufferStatement Cert.KernelIdeal.S2048x2x512 Cert.KernelIdeal.S2048x1x512
  ∧ IdealRules.bf16_pair.HalfStatement Cert.KernelIdeal.S16x256
  ∧ IdealRules.bf16_pair.Statement Cert.KernelIdeal.S16x2x256 Cert.KernelIdeal.S16x1x256
  ∧ IdealRules.bf16_pair.Statement Cert.KernelIdeal.S1x2x256 Cert.KernelIdeal.S1x1x256
  ∧ IdealRules.bf16_pair.Statement Cert.KernelIdeal.S2x256 Cert.KernelIdeal.S1x256
  ∧ IdealRules.bf16_pair.PackStatement Cert.KernelIdeal.S8x128
  ∧ IdealRules.bf16_pair.Statement Cert.KernelIdeal.S8x2x128 Cert.KernelIdeal.S8x1x128
  ∧ IdealRules.bf16_pair.Statement Cert.KernelIdeal.S2048x2x512 Cert.KernelIdeal.S2048x1x512
  ∧ IdealRules.bf16_pair.Statement Cert.KernelIdeal.S4096x512 Cert.KernelIdeal.S2048x512

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1536x4096 : Shape := ⟨3, ![4, 1536, 4096]⟩
abbrev S2048x14336 : Shape := ⟨2, ![2048, 14336]⟩
abbrev S16x256x2 : Shape := ⟨3, ![16, 256, 2]⟩
abbrev S16 : Shape := ⟨1, ![16]⟩
abbrev S14336 : Shape := ⟨1, ![14336]⟩
abbrev S2x16x256 : Shape := ⟨3, ![2, 16, 256]⟩
abbrev S32x256 : Shape := ⟨2, ![32, 256]⟩
abbrev S6144x4096 : Shape := ⟨2, ![6144, 4096]⟩
abbrev S16x1 : Shape := ⟨2, ![16, 1]⟩
abbrev S1x14336 : Shape := ⟨2, ![1, 14336]⟩
abbrev S6144x14336 : Shape := ⟨2, ![6144, 14336]⟩
abbrev S1024x4096 : Shape := ⟨2, ![1024, 4096]⟩
abbrev S2048x512 : Shape := ⟨2, ![2048, 512]⟩
abbrev S1x512 : Shape := ⟨2, ![1, 512]⟩
abbrev S1024x512 : Shape := ⟨2, ![1024, 512]⟩
abbrev S16x256 : Shape := ⟨2, ![16, 256]⟩
abbrev S1x256 : Shape := ⟨2, ![1, 256]⟩
abbrev S1x128 : Shape := ⟨2, ![1, 128]⟩
abbrev S8x128 : Shape := ⟨2, ![8, 128]⟩
abbrev S128x128 : Shape := ⟨2, ![128, 128]⟩
abbrev S8x128x1 : Shape := ⟨3, ![8, 128, 1]⟩
abbrev S4096x512 : Shape := ⟨2, ![4096, 512]⟩

abbrev nBuf : Space → Nat
  | .hbm => 12
  | .vmem => 12
  | .smem => 0
  | _ => 0

abbrev bufTy : (tb : Table) → Fin (tcTables nBuf tb) → BufTy
  | .hbm, ⟨0, _⟩ => ⟨S4x1536x4096, .bf16⟩
  | .hbm, ⟨1, _⟩ => ⟨S2048x14336, .i8⟩
  | .hbm, ⟨2, _⟩ => ⟨S16x256x2, .i8⟩
  | .hbm, ⟨3, _⟩ => ⟨S16, .bf16⟩
  | .hbm, ⟨4, _⟩ => ⟨S14336, .f32⟩
  | .hbm, ⟨5, _⟩ => ⟨S2x16x256, .i8⟩
  | .hbm, ⟨6, _⟩ => ⟨S32x256, .i8⟩
  | .hbm, ⟨7, _⟩ => ⟨S6144x4096, .bf16⟩
  | .hbm, ⟨8, _⟩ => ⟨S16, .f32⟩
  | .hbm, ⟨9, _⟩ => ⟨S16x1, .f32⟩
  | .hbm, ⟨10, _⟩ => ⟨S1x14336, .f32⟩
  | .hbm, ⟨11, _⟩ => ⟨S6144x14336, .bf16⟩
  | .local _ .vmem, ⟨0, _⟩ => ⟨S1024x4096, .bf16⟩
  | .local _ .vmem, ⟨1, _⟩ => ⟨S1024x4096, .bf16⟩
  | .local _ .vmem, ⟨2, _⟩ => ⟨S2048x512, .i8⟩
  | .local _ .vmem, ⟨3, _⟩ => ⟨S2048x512, .i8⟩
  | .local _ .vmem, ⟨4, _⟩ => ⟨S32x256, .i8⟩
  | .local _ .vmem, ⟨5, _⟩ => ⟨S16x1, .f32⟩
  | .local _ .vmem, ⟨6, _⟩ => ⟨S1x512, .f32⟩
  | .local _ .vmem, ⟨7, _⟩ => ⟨S1x512, .f32⟩
  | .local _ .vmem, ⟨8, _⟩ => ⟨S1024x512, .bf16⟩
  | .local _ .vmem, ⟨9, _⟩ => ⟨S1024x512, .bf16⟩
  | .local _ .vmem, ⟨10, _⟩ => ⟨S16x256, .i32⟩
  | .local _ .vmem, ⟨11, _⟩ => ⟨S2048x512, .i32⟩
  | _, _ => ⟨S4x1536x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [BitOps F]

abbrev grid0 : Pipeline.Grid := ⟨2, ![28, 6], ![false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

@[reducible] def k0_t1_loop : Scf.Loop 32 :=
  let c0_i32_11 : BitVec 32 := 0#32
  let c16_i32 : BitVec 32 := 16#32
  let v19 : BitVec 32 := Scalar.addi c0_i32_11 c16_i32
  let c1_i32 : BitVec 32 := 1#32
  ⟨c0_i32_11, v19, c1_i32⟩
def k0_off1 (k0_t1 : Fin k0_t1_loop.trips) : Fin 2 → Nat :=
  let c0_i32_11 : BitVec 32 := 0#32
  let c1_i32 : BitVec 32 := 1#32
  let arg10 : BitVec 32 := Scf.iv c0_i32_11 c1_i32 k0_t1
  let v20 : Index := Scalar.indexCast arg10
  let c0_13 : Index := 0#32
  ![v20.toNat, 0]
def k0_mult1 (k0_t1 : Fin k0_t1_loop.trips) : BitVec 32 :=
  let c0_i32_11 : BitVec 32 := 0#32
  let c1_i32 : BitVec 32 := 1#32
  let arg10 : BitVec 32 := Scf.iv c0_i32_11 c1_i32 k0_t1
  let c128_i32 : BitVec 32 := 128#32
  let v40 : BitVec 32 := Scalar.muli arg10 c128_i32
  v40
def k0_off2 (k0_t1 : Fin k0_t1_loop.trips) : Fin 2 → Nat :=
  let c0_i32_11 : BitVec 32 := 0#32
  let c1_i32 : BitVec 32 := 1#32
  let arg10 : BitVec 32 := Scf.iv c0_i32_11 c1_i32 k0_t1
  let c128_i32 : BitVec 32 := 128#32
  let v40 : BitVec 32 := Scalar.muli arg10 c128_i32
  let v41 : BitVec 32 := v40
  let v42 : Index := Scalar.indexCast v41
  let c0_15 : Index := 0#32
  ![v42.toNat, 0]
def k0_off3 (k0_t1 : Fin k0_t1_loop.trips) (c0_i32_25 : BitVec 32) : Fin 2 → Nat :=
  let c0_i32_11 : BitVec 32 := 0#32
  let c1_i32 : BitVec 32 := 1#32
  let arg10 : BitVec 32 := Scf.iv c0_i32_11 c1_i32 k0_t1
  let c128_i32 : BitVec 32 := 128#32
  let v40 : BitVec 32 := Scalar.muli arg10 c128_i32
  let v41 : BitVec 32 := v40
  let v85 : BitVec 32 := Scalar.addi v41 c0_i32_25
  let v86 : Index := Scalar.indexCast v85
  let c0_26 : Index := 0#32
  ![v86.toNat, 0]
def k0_off4 (k0_t1 : Fin k0_t1_loop.trips) : Fin 2 → Nat :=
  let c0_i32_11 : BitVec 32 := 0#32
  let c1_i32 : BitVec 32 := 1#32
  let arg10 : BitVec 32 := Scf.iv c0_i32_11 c1_i32 k0_t1
  let c128_i32 : BitVec 32 := 128#32
  let v40 : BitVec 32 := Scalar.muli arg10 c128_i32
  let v41 : BitVec 32 := v40
  let v765 : Index := Scalar.indexCast v41
  let c128 : Index := 128#32
  ![v765.toNat, 128]
def k0_off5 (k0_t1 : Fin k0_t1_loop.trips) (c0_i32_203 : BitVec 32) : Fin 2 → Nat :=
  let c0_i32_11 : BitVec 32 := 0#32
  let c1_i32 : BitVec 32 := 1#32
  let arg10 : BitVec 32 := Scf.iv c0_i32_11 c1_i32 k0_t1
  let c128_i32 : BitVec 32 := 128#32
  let v40 : BitVec 32 := Scalar.muli arg10 c128_i32
  let v41 : BitVec 32 := v40
  let v808 : BitVec 32 := Scalar.addi v41 c0_i32_203
  let v809 : Index := Scalar.indexCast v808
  let c128_204 : Index := 128#32
  ![v809.toNat, 128]
def k0_off6 (k0_t1 : Fin k0_t1_loop.trips) : Fin 2 → Nat :=
  let c0_i32_11 : BitVec 32 := 0#32
  let c1_i32 : BitVec 32 := 1#32
  let arg10 : BitVec 32 := Scf.iv c0_i32_11 c1_i32 k0_t1
  let c128_i32 : BitVec 32 := 128#32
  let v40 : BitVec 32 := Scalar.muli arg10 c128_i32
  let v41 : BitVec 32 := v40
  let v1488 : Index := Scalar.indexCast v41
  let c256 : Index := 256#32
  ![v1488.toNat, 256]
def k0_off7 (k0_t1 : Fin k0_t1_loop.trips) (c0_i32_395 : BitVec 32) : Fin 2 → Nat :=
  let c0_i32_11 : BitVec 32 := 0#32
  let c1_i32 : BitVec 32 := 1#32
  let arg10 : BitVec 32 := Scf.iv c0_i32_11 c1_i32 k0_t1
  let c128_i32 : BitVec 32 := 128#32
  let v40 : BitVec 32 := Scalar.muli arg10 c128_i32
  let v41 : BitVec 32 := v40
  let v1531 : BitVec 32 := Scalar.addi v41 c0_i32_395
  let v1532 : Index := Scalar.indexCast v1531
  let c256_396 : Index := 256#32
  ![v1532.toNat, 256]
def k0_off8 (k0_t1 : Fin k0_t1_loop.trips) : Fin 2 → Nat :=
  let c0_i32_11 : BitVec 32 := 0#32
  let c1_i32 : BitVec 32 := 1#32
  let arg10 : BitVec 32 := Scf.iv c0_i32_11 c1_i32 k0_t1
  let c128_i32 : BitVec 32 := 128#32
  let v40 : BitVec 32 := Scalar.muli arg10 c128_i32
  let v41 : BitVec 32 := v40
  let v2211 : Index := Scalar.indexCast v41
  let c384 : Index := 384#32
  ![v2211.toNat, 384]
def k0_off9 (k0_t1 : Fin k0_t1_loop.trips) (c0_i32_587 : BitVec 32) : Fin 2 → Nat :=
  let c0_i32_11 : BitVec 32 := 0#32
  let c1_i32 : BitVec 32 := 1#32
  let arg10 : BitVec 32 := Scf.iv c0_i32_11 c1_i32 k0_t1
  let c128_i32 : BitVec 32 := 128#32
  let v40 : BitVec 32 := Scalar.muli arg10 c128_i32
  let v41 : BitVec 32 := v40
  let v2254 : BitVec 32 := Scalar.addi v41 c0_i32_587
  let v2255 : Index := Scalar.indexCast v2254
  let c384_588 : Index := 384#32
  ![v2255.toNat, 384]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S32x256 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S16x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
abbrev S4x1536x4096 : Shape := ⟨3, ![4, 1536, 4096]⟩
abbrev S2048x14336 : Shape := ⟨2, ![2048, 14336]⟩
abbrev S16x256x2 : Shape := ⟨3, ![16, 256, 2]⟩
abbrev S16 : Shape := ⟨1, ![16]⟩
abbrev S14336 : Shape := ⟨1, ![14336]⟩
abbrev S2x16x256 : Shape := ⟨3, ![2, 16, 256]⟩
abbrev S32x256 : Shape := ⟨2, ![32, 256]⟩
abbrev S6144x4096 : Shape := ⟨2, ![6144, 4096]⟩
abbrev S16x1 : Shape := ⟨2, ![16, 1]⟩
abbrev S1x14336 : Shape := ⟨2, ![1, 14336]⟩
abbrev S6144x14336 : Shape := ⟨2, ![6144, 14336]⟩
abbrev S1024x4096 : Shape := ⟨2, ![1024, 4096]⟩
abbrev S2048x512 : Shape := ⟨2, ![2048, 512]⟩
abbrev S1x512 : Shape := ⟨2, ![1, 512]⟩
abbrev S1024x512 : Shape := ⟨2, ![1024, 512]⟩
abbrev S16x256 : Shape := ⟨2, ![16, 256]⟩
abbrev S16x2x256 : Shape := ⟨3, ![16, 2, 256]⟩
abbrev S16x1x256 : Shape := ⟨3, ![16, 1, 256]⟩
abbrev S2048x2x512 : Shape := ⟨3, ![2048, 2, 512]⟩
abbrev S2048x1x512 : Shape := ⟨3, ![2048, 1, 512]⟩
abbrev S1x256 : Shape := ⟨2, ![1, 256]⟩
abbrev S1x2x256 : Shape := ⟨3, ![1, 2, 256]⟩
abbrev S1x1x256 : Shape := ⟨3, ![1, 1, 256]⟩
abbrev S2x256 : Shape := ⟨2, ![2, 256]⟩
abbrev S1x128 : Shape := ⟨2, ![1, 128]⟩
abbrev S8x128 : Shape := ⟨2, ![8, 128]⟩
abbrev S128x128 : Shape := ⟨2, ![128, 128]⟩
abbrev S8x128x1 : Shape := ⟨3, ![8, 128, 1]⟩
abbrev S8x2x128 : Shape := ⟨3, ![8, 2, 128]⟩
abbrev S8x1x128 : Shape := ⟨3, ![8, 1, 128]⟩
abbrev S4096x512 : Shape := ⟨2, ![4096, 512]⟩

abbrev nBuf : Space → Nat
  | .hbm => 12
  | .vmem => 12
  | .smem => 0
  | _ => 0

abbrev bufTy : (tb : Table) → Fin (tcTables nBuf tb) → BufTy
  | .hbm, ⟨0, _⟩ => ⟨S4x1536x4096, .bf16⟩
  | .hbm, ⟨1, _⟩ => ⟨S2048x14336, .i8⟩
  | .hbm, ⟨2, _⟩ => ⟨S16x256x2, .i8⟩
  | .hbm, ⟨3, _⟩ => ⟨S16, .bf16⟩
  | .hbm, ⟨4, _⟩ => ⟨S14336, .f32⟩
  | .hbm, ⟨5, _⟩ => ⟨S2x16x256, .i8⟩
  | .hbm, ⟨6, _⟩ => ⟨S32x256, .i8⟩
  | .hbm, ⟨7, _⟩ => ⟨S6144x4096, .bf16⟩
  | .hbm, ⟨8, _⟩ => ⟨S16, .f32⟩
  | .hbm, ⟨9, _⟩ => ⟨S16x1, .f32⟩
  | .hbm, ⟨10, _⟩ => ⟨S1x14336, .f32⟩
  | .hbm, ⟨11, _⟩ => ⟨S6144x14336, .bf16⟩
  | .local _ .vmem, ⟨0, _⟩ => ⟨S1024x4096, .bf16⟩
  | .local _ .vmem, ⟨1, _⟩ => ⟨S1024x4096, .bf16⟩
  | .local _ .vmem, ⟨2, _⟩ => ⟨S2048x512, .i8⟩
  | .local _ .vmem, ⟨3, _⟩ => ⟨S2048x512, .i8⟩
  | .local _ .vmem, ⟨4, _⟩ => ⟨S32x256, .i8⟩
  | .local _ .vmem, ⟨5, _⟩ => ⟨S16x1, .f32⟩
  | .local _ .vmem, ⟨6, _⟩ => ⟨S1x512, .f32⟩
  | .local _ .vmem, ⟨7, _⟩ => ⟨S1x512, .f32⟩
  | .local _ .vmem, ⟨8, _⟩ => ⟨S1024x512, .bf16⟩
  | .local _ .vmem, ⟨9, _⟩ => ⟨S1024x512, .bf16⟩
  | .local _ .vmem, ⟨10, _⟩ => ⟨S16x2x256, .bf16⟩
  | .local _ .vmem, ⟨11, _⟩ => ⟨S2048x2x512, .bf16⟩
  | _, _ => ⟨S4x1536x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![28, 6], ![false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

@[reducible] def k0_t1_loop : Scf.Loop 32 :=
  let c0_i32_11 : BitVec 32 := 0#32
  let c16_i32 : BitVec 32 := 16#32
  let v19 : BitVec 32 := Scalar.addi c0_i32_11 c16_i32
  let c1_i32 : BitVec 32 := 1#32
  ⟨c0_i32_11, v19, c1_i32⟩
def k0_off1 (k0_t1 : Fin k0_t1_loop.trips) : Fin 3 → Nat :=
  let c0_i32_11 : BitVec 32 := 0#32
  let c1_i32 : BitVec 32 := 1#32
  let arg10 : BitVec 32 := Scf.iv c0_i32_11 c1_i32 k0_t1
  let v20 : Index := Scalar.indexCast arg10
  let c0_13 : Index := 0#32
  ![v20.toNat, 0, 0]
def k0_mult1 (k0_t1 : Fin k0_t1_loop.trips) : BitVec 32 :=
  let c0_i32_11 : BitVec 32 := 0#32
  let c1_i32 : BitVec 32 := 1#32
  let arg10 : BitVec 32 := Scf.iv c0_i32_11 c1_i32 k0_t1
  let c128_i32 : BitVec 32 := 128#32
  let v40 : BitVec 32 := Scalar.muli arg10 c128_i32
  v40
def k0_off2 (k0_t1 : Fin k0_t1_loop.trips) : Fin 2 → Nat :=
  let c0_i32_11 : BitVec 32 := 0#32
  let c1_i32 : BitVec 32 := 1#32
  let arg10 : BitVec 32 := Scf.iv c0_i32_11 c1_i32 k0_t1
  let c128_i32 : BitVec 32 := 128#32
  let v40 : BitVec 32 := Scalar.muli arg10 c128_i32
  let v41 : BitVec 32 := v40
  let v42 : Index := Scalar.indexCast v41
  let c0_15 : Index := 0#32
  ![v42.toNat, 0]
def k0_off3 (k0_t1 : Fin k0_t1_loop.trips) (c0_i32_25 : BitVec 32) : Fin 3 → Nat :=
  let c0_i32_11 : BitVec 32 := 0#32
  let c1_i32 : BitVec 32 := 1#32
  let arg10 : BitVec 32 := Scf.iv c0_i32_11 c1_i32 k0_t1
  let c128_i32 : BitVec 32 := 128#32
  let v40 : BitVec 32 := Scalar.muli arg10 c128_i32
  let v41 : BitVec 32 := v40
  let v85 : BitVec 32 := Scalar.addi v41 c0_i32_25
  let v86 : Index := Scalar.indexCast v85
  let c0_26 : Index := 0#32
  ![v86.toNat, 0, 0]
def k0_off4 (k0_t1 : Fin k0_t1_loop.trips) : Fin 2 → Nat :=
  let c0_i32_11 : BitVec 32 := 0#32
  let c1_i32 : BitVec 32 := 1#32
  let arg10 : BitVec 32 := Scf.iv c0_i32_11 c1_i32 k0_t1
  let c128_i32 : BitVec 32 := 128#32
  let v40 : BitVec 32 := Scalar.muli arg10 c128_i32
  let v41 : BitVec 32 := v40
  let v765 : Index := Scalar.indexCast v41
  let c128 : Index := 128#32
  ![v765.toNat, 128]
def k0_off5 (k0_t1 : Fin k0_t1_loop.trips) (c0_i32_203 : BitVec 32) : Fin 3 → Nat :=
  let c0_i32_11 : BitVec 32 := 0#32
  let c1_i32 : BitVec 32 := 1#32
  let arg10 : BitVec 32 := Scf.iv c0_i32_11 c1_i32 k0_t1
  let c128_i32 : BitVec 32 := 128#32
  let v40 : BitVec 32 := Scalar.muli arg10 c128_i32
  let v41 : BitVec 32 := v40
  let v808 : BitVec 32 := Scalar.addi v41 c0_i32_203
  let v809 : Index := Scalar.indexCast v808
  let c128_204 : Index := 128#32
  ![v809.toNat, 0, 128]
def k0_off6 (k0_t1 : Fin k0_t1_loop.trips) : Fin 2 → Nat :=
  let c0_i32_11 : BitVec 32 := 0#32
  let c1_i32 : BitVec 32 := 1#32
  let arg10 : BitVec 32 := Scf.iv c0_i32_11 c1_i32 k0_t1
  let c128_i32 : BitVec 32 := 128#32
  let v40 : BitVec 32 := Scalar.muli arg10 c128_i32
  let v41 : BitVec 32 := v40
  let v1488 : Index := Scalar.indexCast v41
  let c256 : Index := 256#32
  ![v1488.toNat, 256]
def k0_off7 (k0_t1 : Fin k0_t1_loop.trips) (c0_i32_395 : BitVec 32) : Fin 3 → Nat :=
  let c0_i32_11 : BitVec 32 := 0#32
  let c1_i32 : BitVec 32 := 1#32
  let arg10 : BitVec 32 := Scf.iv c0_i32_11 c1_i32 k0_t1
  let c128_i32 : BitVec 32 := 128#32
  let v40 : BitVec 32 := Scalar.muli arg10 c128_i32
  let v41 : BitVec 32 := v40
  let v1531 : BitVec 32 := Scalar.addi v41 c0_i32_395
  let v1532 : Index := Scalar.indexCast v1531
  let c256_396 : Index := 256#32
  ![v1532.toNat, 0, 256]
def k0_off8 (k0_t1 : Fin k0_t1_loop.trips) : Fin 2 → Nat :=
  let c0_i32_11 : BitVec 32 := 0#32
  let c1_i32 : BitVec 32 := 1#32
  let arg10 : BitVec 32 := Scf.iv c0_i32_11 c1_i32 k0_t1
  let c128_i32 : BitVec 32 := 128#32
  let v40 : BitVec 32 := Scalar.muli arg10 c128_i32
  let v41 : BitVec 32 := v40
  let v2211 : Index := Scalar.indexCast v41
  let c384 : Index := 384#32
  ![v2211.toNat, 384]
def k0_off9 (k0_t1 : Fin k0_t1_loop.trips) (c0_i32_587 : BitVec 32) : Fin 3 → Nat :=
  let c0_i32_11 : BitVec 32 := 0#32
  let c1_i32 : BitVec 32 := 1#32
  let arg10 : BitVec 32 := Scf.iv c0_i32_11 c1_i32 k0_t1
  let c128_i32 : BitVec 32 := 128#32
  let v40 : BitVec 32 := Scalar.muli arg10 c128_i32
  let v41 : BitVec 32 := v40
  let v2254 : BitVec 32 := Scalar.addi v41 c0_i32_587
  let v2255 : Index := Scalar.indexCast v2254
  let c384_588 : Index := 384#32
  ![v2255.toNat, 0, 384]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S32x256 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S16x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S4x1536x4096 : Shape := ⟨3, ![4, 1536, 4096]⟩
abbrev S2048x14336 : Shape := ⟨2, ![2048, 14336]⟩
abbrev S16x256x2 : Shape := ⟨3, ![16, 256, 2]⟩
abbrev S16 : Shape := ⟨1, ![16]⟩
abbrev S14336 : Shape := ⟨1, ![14336]⟩
abbrev S16x1x1 : Shape := ⟨3, ![16, 1, 1]⟩
abbrev S16x128x256x2 : Shape := ⟨4, ![16, 128, 256, 2]⟩
abbrev S2048x256x2 : Shape := ⟨3, ![2048, 256, 2]⟩
abbrev S2048x256x1 : Shape := ⟨3, ![2048, 256, 1]⟩
abbrev S2048x256 : Shape := ⟨2, ![2048, 256]⟩
abbrev S_ : Shape := ⟨0, ![]⟩
abbrev S2048x14336x1 : Shape := ⟨3, ![2048, 14336, 1]⟩
abbrev S6144x2048x2 : Shape := ⟨3, ![6144, 2048, 2]⟩
abbrev S6144x2048x1 : Shape := ⟨3, ![6144, 2048, 1]⟩
abbrev S6144x2048 : Shape := ⟨2, ![6144, 2048]⟩
abbrev S6144x14336 : Shape := ⟨2, ![6144, 14336]⟩
abbrev S1x14336 : Shape := ⟨2, ![1, 14336]⟩

abbrev nBuf : Space → Nat
  | .hbm => 50
  | .vmem => 0
  | .smem => 0
  | _ => 0

abbrev bufTy : (tb : Table) → Fin (tcTables nBuf tb) → BufTy
  | .hbm, ⟨0, _⟩ => ⟨S4x1536x4096, .bf16⟩
  | .hbm, ⟨1, _⟩ => ⟨S2048x14336, .i8⟩
  | .hbm, ⟨2, _⟩ => ⟨S16x256x2, .i8⟩
  | .hbm, ⟨3, _⟩ => ⟨S16, .bf16⟩
  | .hbm, ⟨4, _⟩ => ⟨S14336, .f32⟩
  | .hbm, ⟨5, _⟩ => ⟨S16x256x2, .i32⟩
  | .hbm, ⟨6, _⟩ => ⟨S16x256x2, .f32⟩
  | .hbm, ⟨7, _⟩ => ⟨S16x256x2, .bf16⟩
  | .hbm, ⟨8, _⟩ => ⟨S16x1x1, .bf16⟩
  | .hbm, ⟨9, _⟩ => ⟨S16x256x2, .bf16⟩
  | .hbm, ⟨10, _⟩ => ⟨S16x256x2, .bf16⟩
  | .hbm, ⟨11, _⟩ => ⟨S16x128x256x2, .bf16⟩
  | .hbm, ⟨12, _⟩ => ⟨S2048x256x2, .bf16⟩
  | .hbm, ⟨13, _⟩ => ⟨S2048x14336, .i32⟩
  | .hbm, ⟨14, _⟩ => ⟨S2048x256x1, .bf16⟩
  | .hbm, ⟨15, _⟩ => ⟨S2048x256, .bf16⟩
  | .hbm, ⟨16, _⟩ => ⟨S2048x14336, .i32⟩
  | .hbm, ⟨17, _⟩ => ⟨S_, .i32⟩
  | .hbm, ⟨18, _⟩ => ⟨S2048x14336, .i32⟩
  | .hbm, ⟨19, _⟩ => ⟨S2048x14336, .i1⟩
  | .hbm, ⟨20, _⟩ => ⟨S_, .i32⟩
  | .hbm, ⟨21, _⟩ => ⟨S2048x14336, .i32⟩
  | .hbm, ⟨22, _⟩ => ⟨S2048x14336, .i32⟩
  | .hbm, ⟨23, _⟩ => ⟨S2048x14336, .i32⟩
  | .hbm, ⟨24, _⟩ => ⟨S2048x14336x1, .i32⟩
  | .hbm, ⟨25, _⟩ => ⟨S2048x14336, .bf16⟩
  | .hbm, ⟨26, _⟩ => ⟨S2048x256x1, .bf16⟩
  | .hbm, ⟨27, _⟩ => ⟨S2048x256, .bf16⟩
  | .hbm, ⟨28, _⟩ => ⟨S2048x14336, .i32⟩
  | .hbm, ⟨29, _⟩ => ⟨S_, .i32⟩
  | .hbm, ⟨30, _⟩ => ⟨S2048x14336, .i32⟩
  | .hbm, ⟨31, _⟩ => ⟨S2048x14336, .i1⟩
  | .hbm, ⟨32, _⟩ => ⟨S_, .i32⟩
  | .hbm, ⟨33, _⟩ => ⟨S2048x14336, .i32⟩
  | .hbm, ⟨34, _⟩ => ⟨S2048x14336, .i32⟩
  | .hbm, ⟨35, _⟩ => ⟨S2048x14336, .i32⟩
  | .hbm, ⟨36, _⟩ => ⟨S2048x14336x1, .i32⟩
  | .hbm, ⟨37, _⟩ => ⟨S2048x14336, .bf16⟩
  | .hbm, ⟨38, _⟩ => ⟨S6144x2048x2, .bf16⟩
  | .hbm, ⟨39, _⟩ => ⟨S6144x2048x1, .bf16⟩
  | .hbm, ⟨40, _⟩ => ⟨S6144x2048, .bf16⟩
  | .hbm, ⟨41, _⟩ => ⟨S6144x14336, .f32⟩
  | .hbm, ⟨42, _⟩ => ⟨S6144x2048x1, .bf16⟩
  | .hbm, ⟨43, _⟩ => ⟨S6144x2048, .bf16⟩
  | .hbm, ⟨44, _⟩ => ⟨S6144x14336, .f32⟩
  | .hbm, ⟨45, _⟩ => ⟨S6144x14336, .f32⟩
  | .hbm, ⟨46, _⟩ => ⟨S1x14336, .f32⟩
  | .hbm, ⟨47, _⟩ => ⟨S6144x14336, .f32⟩
  | .hbm, ⟨48, _⟩ => ⟨S6144x14336, .f32⟩
  | .hbm, ⟨49, _⟩ => ⟨S6144x14336, .bf16⟩
  | _, _ => ⟨S4x1536x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_v2 : Ref sig .tc := ⟨.hbm, 19, rfl⟩
abbrev main_call0_c_0 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_call1_v0 : Ref sig .tc := ⟨.hbm, 28, rfl⟩
abbrev main_call1_c : Ref sig .tc := ⟨.hbm, 29, rfl⟩
abbrev main_call1_v1 : Ref sig .tc := ⟨.hbm, 30, rfl⟩
abbrev main_call1_v2 : Ref sig .tc := ⟨.hbm, 31, rfl⟩
abbrev main_call1_c_0 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩

abbrev nD : Nat := 1
abbrev τ : Topo := Topo.v7x

variable {F : FTy → Type} [FloatOps F]
-- ==== Proof.Claims.lean ====
/-
  The claims other than the equation: the printed kernel, its ideal reading and the ideal reference end with every
  semaphore at rest and every argument as it was, and the ideal reading preserves the printed kernel.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Bf16PairInverse
public import Idealize.ShloMosaic.Lib.Quiescent

@[expose] public section

noncomputable section

namespace Cert.Proof

open Idealize.ShloMosaic Idealize.SL.Sem

/-- The printed kernel runs to completion from every start, and leaves its arguments as they were. -/
theorem frame_p : Cert.quiescent_Kernel := fun m ρ _ => Cert.Kernel.Gen.frame m ρ

/-- So does its ideal reading. -/
theorem frame_pi : Cert.quiescent_KernelIdeal := fun m ρ _ => Cert.KernelIdeal.Gen.frame m ρ

/-- So does the ideal reading of the reference, a host program without a semaphore. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Each place where the ideal reading replaced a word of two bf16 halves by the halves meets the rule it was made by. -/
theorem preserves : Cert.preserves_Kernel_KernelIdeal :=
  open Cert.KernelIdeal IdealRules.bf16_pair in
  ⟨bufferStatement S16x2x256 S16x1x256, bufferStatement S2048x2x512 S2048x1x512, halfStatement S16x256,
   statement S16x2x256 S16x1x256, statement S1x2x256 S1x1x256, statement S2x256 S1x256, packStatement S8x128,
   statement S8x2x128 S8x1x128, statement S2048x2x512 S2048x1x512, statement S4096x512 S2048x512⟩

end Cert.Proof

end
-- ==== Proof.Lookup.lean ====
/-
  One lookup of eight rows of codes. The kernel expands the table row of a block of codes as four 8 × 128 arrays: the
  even weights and the odd weights of the codes below 128, and those of the codes from 128 on. It reads each at the low
  seven bits of the code and chooses by the eighth. `chunk` is that computation; `chunk_apply` says that it reads the
  table row at the code.
-/
module

public import proofs.«01_k».proof.Proof.Gen.KernelIdeal.Skeleton
public import Idealize.ShloMosaic.Lib.Pipeline.Value
public import Idealize.ShloMosaic.Lib.ValueIdx

@[expose] public section

noncomputable section

namespace Cert.KernelIdeal.Lookup

open Cert.KernelIdeal Cert.KernelIdeal.Gen
open Idealize.ShloMosaic Idealize.ShloMosaic.ValueIdx

/-- The lane each code is looked up at: its low seven bits. The program adds 128 to a negative one; there is none. -/
def lane (v : IVec S8x128 32) : IVec S8x128 32 :=
  shapeCast S8x128 (shapeCast S8x128x1
    (select (cmpi .slt (andi v (broadcast S8x128 127#32)) (broadcast S8x128 0#32))
      (addi (andi v (broadcast S8x128 127#32)) (broadcast S8x128 128#32)) (andi v (broadcast S8x128 127#32)))
    shapeCasts_S8x128_S8x128x1) shapeCasts_S8x128x1_S8x128

/-- One half (the even or the odd weights) of eight rows: the entry of the low or of the high 128 codes. -/
def half (lo hi : FVec Ideal S8x128 .f32) (v : IVec S8x128 32) : FVec Ideal S8x128 .bf16 :=
  select (cmpi .sge v (broadcast S8x128 128#32)) (truncf .bf16 (dynamicGather 1 hi (lane v)) : FVec Ideal S8x128 .bf16)
    (truncf .bf16 (dynamicGather 1 lo (lane v)))

/-- Eight rows of weights, the even and the odd ones paired, from a table row and eight rows of codes. -/
def chunk (T : Vec Ideal S1x2x256 .bf16) (v : IVec S8x128 32) : Vec Ideal S8x2x128 .bf16 :=
  interleaveRows S8x2x128
    (shapeCast S8x1x128 (half (k0_pay6 T) (k0_pay8 T) v) shapeCasts_S8x128_S8x1x128)
    (shapeCast S8x1x128 (half (k0_pay7 T) (k0_pay9 T) v) shapeCasts_S8x128_S8x1x128) bitcasts_S8x2x128_w16_S8x1x128_w32

/-- The lane of a code is its low seven bits, as a number. -/
theorem lane_toNat (v : IVec S8x128 32) (j : S8x128.Idx) : (lane v j).toNat = (v j).toNat % 128 := by
  have h : lane v = select (cmpi .slt (andi v (broadcast S8x128 127#32)) (broadcast S8x128 0#32))
      (addi (andi v (broadcast S8x128 127#32)) (broadcast S8x128 128#32)) (andi v (broadcast S8x128 127#32)) :=
    shapeCast_shapeCast _ _ _
  rw [h]
  generalize hx : v j = x
  have e : ∀ x : BitVec 32, BitVec.slt (x &&& 127#32) 0#32 = false := fun x => by
    rw [BitVec.slt_eq_decide, decide_eq_false_iff_not, BitVec.toInt_eq_toNat_of_lt]
    · simp
    · have : (x &&& 127#32).toNat ≤ 127 := by rw [BitVec.toNat_and]; exact Nat.and_le_right
      omega
  have : select (cmpi .slt (andi v (broadcast S8x128 127#32)) (broadcast S8x128 0#32))
      (addi (andi v (broadcast S8x128 127#32)) (broadcast S8x128 128#32)) (andi v (broadcast S8x128 127#32)) j
      = x &&& 127#32 := by
    subst hx
    simp only [select, cmpi, andi, broadcast, IntOp.cmpi, IntOp.andi, Scalar.select, e]
    simp
  rw [this, BitVec.toNat_and]
  exact Nat.and_two_pow_sub_one_eq_mod _ 7

/-- A half read at `j` is the entry at the code: of the low 128 codes below 128, of the high 128 from there on. -/
theorem half_apply (lo hi : FVec Ideal S8x128 .f32) (v : IVec S8x128 32) (j : S8x128.Idx) (hv : (v j).toNat < 256) :
    half lo hi v j = if (v j).toNat < 128 then lo (ix2 (j 0) ⟨(v j).toNat % 128, Nat.mod_lt _ (by decide)⟩)
      else hi (ix2 (j 0) ⟨(v j).toNat % 128, Nat.mod_lt _ (by decide)⟩) := by
  have hg : ∀ x : FVec Ideal S8x128 .f32, dynamicGather (s := S8x128) 1 x (lane v) j
      = x (ix2 (j 0) ⟨(v j).toNat % 128, Nat.mod_lt _ (by decide)⟩) := fun x => by
    unfold dynamicGather
    refine congrArg x (funext fun b => ?_)
    match b with
    | ⟨0, _⟩ => exact if_neg (fun h => absurd (congrArg Fin.val h) (by simp))
    | ⟨1, _⟩ =>
      refine (if_pos rfl).trans (Fin.ext ?_)
      show (lane v j).toNat % 128 = (v j).toNat % 128
      rw [lane_toNat]; omega
  have hc : IntOp.cmpi .sge (v j) 128#32 = if (v j).toNat < 128 then 0#1 else 1#1 := by
    have : BitVec.sle 128#32 (v j) = decide (¬ (v j).toNat < 128) := by
      rw [BitVec.sle_eq_decide, BitVec.toInt_eq_toNat_of_lt (by decide), BitVec.toInt_eq_toNat_of_lt (by omega)]
      simp
    simp only [IntOp.cmpi, this]
    split <;> simp_all
  unfold half
  simp only [select, cmpi, broadcast, hc, Scalar.select]
  show (if _ then dynamicGather (s := S8x128) 1 hi (lane v) j else dynamicGather (s := S8x128) 1 lo (lane v) j) = _
  rw [hg, hg]
  split <;> simp_all

/-- The two halves of a table row: its even and its odd weights. -/
theorem pay4_apply (T : Vec Ideal S1x2x256 .bf16) (c : Fin 256) : k0_pay4 T (ix2 0 c) = T (ix3 0 0 c) := by
  show shapeCast S1x256 (rowsOfParity 0 S1x1x256 T bitcasts_S1x2x256_w16_S1x1x256_w32) shapeCasts_S1x1x256_S1x256 (ix2 0 c) = _
  rw [shapeCast_dropUnit_apply]
  unfold rowsOfParity
  refine congrArg T (funext fun b => ?_)
  match b with
  | ⟨0, _⟩ => exact Fin.ext rfl
  | ⟨1, _⟩ => exact Fin.ext rfl
  | ⟨2, _⟩ => exact Fin.ext rfl

theorem pay5_apply (T : Vec Ideal S1x2x256 .bf16) (c : Fin 256) : k0_pay5 T (ix2 0 c) = T (ix3 0 1 c) := by
  show shapeCast S1x256 (rowsOfParity 1 S1x1x256 T bitcasts_S1x2x256_w16_S1x1x256_w32) shapeCasts_S1x1x256_S1x256 (ix2 0 c) = _
  rw [shapeCast_dropUnit_apply]
  unfold rowsOfParity
  refine congrArg T (funext fun b => ?_)
  match b with
  | ⟨0, _⟩ => exact Fin.ext rfl
  | ⟨1, _⟩ => exact Fin.ext rfl
  | ⟨2, _⟩ => exact Fin.ext rfl

/-- A 128-lane stretch of one row, repeated on eight rows, read at a lane. -/
theorem rep_apply (x : FVec Ideal S1x256 .f32) (o : Nat) (ho : o + 128 ≤ 256) (hs : S1x256.Slices ![0, o] S1x128)
    (r : Fin 8) (l : Fin 128) :
    broadcastTo S8x128 (shapeCast S1x128 (extractStridedSlice S1x128 ![0, o] x hs) shapeCasts_S1x128_S1x128)
      broadcasts_S1x128_S8x128 (ix2 r l) = x (ix2 0 ⟨o + l.val, by omega⟩) := by
  rw [shapeCast_self]
  unfold broadcastTo extractStridedSlice
  refine congrArg x (funext fun b => ?_)
  match b with
  | ⟨0, _⟩ => exact Fin.ext rfl
  | ⟨1, _⟩ => exact Fin.ext rfl

/-- The four expanded arrays, read at a lane: the table row at that code, or 128 further. -/
theorem pay6_apply (T : Vec Ideal S1x2x256 .bf16) (r : Fin 8) (l : Fin 128) :
    k0_pay6 T (ix2 r l) = T (ix3 0 0 ⟨l.val, by omega⟩) := by
  refine (rep_apply (k0_pay4 T) 0 (by decide) _ r l).trans ((pay4_apply T _).trans ?_)
  simp

theorem pay8_apply (T : Vec Ideal S1x2x256 .bf16) (r : Fin 8) (l : Fin 128) :
    k0_pay8 T (ix2 r l) = T (ix3 0 0 ⟨128 + l.val, by omega⟩) := by
  refine (rep_apply (k0_pay4 T) 128 (by decide) _ r l).trans ((pay4_apply T _).trans ?_)
  rfl

theorem pay7_apply (T : Vec Ideal S1x2x256 .bf16) (r : Fin 8) (l : Fin 128) :
    k0_pay7 T (ix2 r l) = T (ix3 0 1 ⟨l.val, by omega⟩) := by
  refine (rep_apply (k0_pay5 T) 0 (by decide) _ r l).trans ((pay5_apply T _).trans ?_)
  simp

theorem pay9_apply (T : Vec Ideal S1x2x256 .bf16) (r : Fin 8) (l : Fin 128) :
    k0_pay9 T (ix2 r l) = T (ix3 0 1 ⟨128 + l.val, by omega⟩) := by
  refine (rep_apply (k0_pay5 T) 128 (by decide) _ r l).trans ((pay5_apply T _).trans ?_)
  rfl

/-- Two 8 × 128 arrays paired: member 0 of a pair is the first array's entry, member 1 the second's. -/
theorem pair_apply (a b : FVec Ideal S8x128 .bf16) (r : Fin 8) (h : Fin 2) (l : Fin 128) :
    interleaveRows S8x2x128 (shapeCast S8x1x128 a shapeCasts_S8x128_S8x1x128)
      (shapeCast S8x1x128 b shapeCasts_S8x128_S8x1x128) bitcasts_S8x2x128_w16_S8x1x128_w32 (ix3 r h l)
      = if h.val = 0 then a (ix2 r l) else b (ix2 r l) := by
  have h1 : ∀ (x : FVec Ideal S8x128 .bf16) (k : S8x1x128.Idx), (k 0).val = r.val → (k 2).val = l.val →
      shapeCast S8x1x128 x shapeCasts_S8x128_S8x1x128 k = x (ix2 r l) := fun x k e0 e2 => by
    refine shapeCast_apply _ _ _ _ ?_
    have e1 : (k 1).val = 0 := by have : (k 1).val < 1 := (k 1).isLt; omega
    rw [Shape.rowMajor_val_two, Shape.rowMajor_val_three, e0, e1, e2]
    show r.val * 128 + l.val = (r.val * 1 + 0) * 128 + l.val
    omega
  unfold interleaveRows
  dsimp only
  rw [h1 a _ rfl rfl, h1 b _ rfl rfl]
  refine if_congr ?_ rfl rfl
  show h.val % 2 = 0 ↔ h.val = 0
  omega

/-- Eight rows of weights read at row `r`, half `h`, column `l`: half `h` of the table row at that row and column's code. -/
theorem chunk_apply (T : Vec Ideal S1x2x256 .bf16) (v : IVec S8x128 32) (r : Fin 8) (h : Fin 2) (l : Fin 128)
    (c : Fin 256) (hv : (v (ix2 r l)).toNat = c.val) : chunk T v (ix3 r h l) = T (ix3 0 h c) := by
  have key : ∀ h : Fin 2, ∀ lo hi : FVec Ideal S8x128 .f32, (∀ r l, lo (ix2 r l) = T (ix3 0 h ⟨l.val, by omega⟩)) →
      (∀ r l, hi (ix2 r l) = T (ix3 0 h ⟨128 + l.val, by omega⟩)) →
      half lo hi v (ix2 r l) = T (ix3 0 h c) := fun h lo hi e0 e1 => by
    rw [half_apply lo hi v _ (by omega)]
    have hc := c.isLt
    split
    · rename_i hlt
      refine (e0 _ _).trans (congrArg T (congrArg (ix3 0 h) (Fin.ext ?_)))
      exact (Nat.mod_eq_of_lt hlt).trans hv
    · rename_i hlt
      refine (e1 _ _).trans (congrArg T (congrArg (ix3 0 h) (Fin.ext ?_)))
      show 128 + (v (ix2 r l)).toNat % 128 = c.val
      omega
  unfold chunk
  rw [pair_apply]
  match h with
  | ⟨0, _⟩ => exact (if_pos rfl).trans (key 0 _ _ (pay6_apply T) (pay8_apply T))
  | ⟨1, _⟩ => exact (if_neg Nat.one_ne_zero).trans (key 1 _ _ (pay7_apply T) (pay9_apply T))

end Cert.KernelIdeal.Lookup

end
-- ==== Proof.Weights.lean ====
/-
  What the weight scratch holds once a point has built it: at row `r`, half `h` (0 the even, 1 the odd weights) and
  column `c`, half `h` of the table of codes at row `r / 128` and at the code of row `r`, column `c`. Each trip of the
  loop writes 128 rows as 64 pieces of 8 rows and 128 columns; each piece is a block of that one array.
-/
module

public import proofs.«01_k».proof.Proof.Lookup
public import proofs.«01_k».proof.Proof.Gen.KernelIdeal.Loops
public import Idealize.ShloMosaic.Lib.Pipeline.ReadBack
public import Idealize.ShloMosaic.Lib.Tactic.Stretches

@[expose] public section

noncomputable section

namespace Cert.KernelIdeal.Weights

open Cert.KernelIdeal Cert.KernelIdeal.Gen Cert.KernelIdeal.Lookup
open Idealize.ShloMosaic Idealize.ShloMosaic.TcCoe Idealize.ShloMosaic.ValueIdx Idealize.SL.Sem

/-- The weights of a tile of columns: the table `T` looked up at the codes `X`. -/
def weights (T : Vec Ideal S16x2x256 .bf16) (X : Vec Ideal S2048x512 .i8) : Vec Ideal S2048x2x512 .bf16 := fun y =>
  T (ix3 ⟨(y 0).val / 128, by have h : (y 0).val < 2048 := (y 0).isLt; omega⟩ (y 1)
    ⟨BitVec.toNat (w := 8) (X (ix2 (y 0) (y 2))), BitVec.isLt _⟩)

/-- Eight rows and 128 columns looked up from the table row of trip `k` are the block of `weights` they are stored at. -/
theorem piece (T : Vec Ideal S16x2x256 .bf16) (X : Vec Ideal S2048x512 .i8) (k r0 c0 : Nat) {off1 : Fin 3 → Nat}
    (h1 : off1 = ![k, 0, 0]) (inb1 : ∀ a, off1 a + S1x2x256.size a ≤ S16x2x256.size a) {off2 : Fin 2 → Nat}
    (h2 : off2 = ![128 * k, c0]) (inb2 : ∀ a, off2 a + S128x128.size a ≤ S2048x512.size a)
    (hs : S128x128.Slices ![r0, 0] S8x128) {off3 : Fin 3 → Nat} (h3 : off3 = ![128 * k + r0, 0, c0])
    (inb3 : ∀ a, off3 a + S8x2x128.size a ≤ S2048x2x512.size a) (x : S8x2x128.Idx) :
    chunk (View.ld (Val := Elt Ideal) T (Rect.unit off1 S1x2x256.size inb1))
      (extractStridedSlice S8x128 ![r0, 0]
        (extui 32 (View.ld (Val := Elt Ideal) X (Rect.unit off2 S128x128.size inb2) : IVec S128x128 8) natLt_8_32 : IVec S128x128 32) hs) x
      = weights T X ((Rect.unit (s := S2048x2x512) off3 S8x2x128.size inb3).emb x) := by
  subst h1 h2 h3
  have hr0 : r0 + 8 ≤ 128 := hs.2 0
  obtain ⟨r, h, l, rfl⟩ : ∃ (r : Fin 8) (h : Fin 2) (l : Fin 128), x = ix3 r h l := ⟨x 0, x 1, x 2, eq_ix3 x⟩
  have hX : X ((Rect.unit (s := S2048x512) ![128 * k, c0] S128x128.size inb2).emb (ix2 ⟨r0 + r.val, by omega⟩ l))
      = X (ix2 ((Rect.unit (s := S2048x2x512) ![128 * k + r0, 0, c0] S8x2x128.size inb3).emb (ix3 r h l) 0)
        ((Rect.unit (s := S2048x2x512) ![128 * k + r0, 0, c0] S8x2x128.size inb3).emb (ix3 r h l) 2)) := by
    refine congrArg X (funext fun a => Fin.ext ?_)
    match a with
    | ⟨0, _⟩ =>
      show 128 * k + 1 * (r0 + r.val) = 128 * k + r0 + 1 * r.val
      omega
    | ⟨1, _⟩ => rfl
  unfold weights
  rw [chunk_apply _ _ r h l ⟨BitVec.toNat (w := 8) (X ((Rect.unit (s := S2048x512) ![128 * k, c0] S128x128.size inb2).emb
    (ix2 ⟨r0 + r.val, by omega⟩ l))), BitVec.isLt _⟩]
  · show T _ = T _
    refine congrArg T (funext fun a => Fin.ext ?_)
    match a with
    | ⟨0, _⟩ =>
      show k + 1 * 0 = (128 * k + r0 + 1 * r.val) / 128
      omega
    | ⟨1, _⟩ =>
      show 0 + 1 * h.val = 0 + 1 * h.val
      rfl
    | ⟨2, _⟩ =>
      show 0 + 1 * BitVec.toNat (w := 8) (X _) = BitVec.toNat (w := 8) (X _)
      rw [hX]; omega
  · show BitVec.toNat (w := 32) (BitVec.setWidth 32 (X ((Rect.unit (s := S2048x512) ![128 * k, c0] S128x128.size inb2).emb _) : BitVec 8)) = _
    rw [BitVec.toNat_setWidth_of_le (by decide)]
    refine congrArg (fun i => BitVec.toNat (w := 8) (X i)) ?_
    refine congrArg _ (funext fun a => Fin.ext ?_)
    match a with
    | ⟨0, _⟩ => rfl
    | ⟨1, _⟩ => exact Nat.zero_add _

/-- The same for a payload `p` that is that lookup, as the program spells it. -/
theorem piece_of (T : Vec Ideal S16x2x256 .bf16) (X : Vec Ideal S2048x512 .i8) (k r0 c0 : Nat) {off1 : Fin 3 → Nat}
    (h1 : off1 = ![k, 0, 0]) (inb1 : ∀ a, off1 a + S1x2x256.size a ≤ S16x2x256.size a) {off2 : Fin 2 → Nat}
    (h2 : off2 = ![128 * k, c0]) (inb2 : ∀ a, off2 a + S128x128.size a ≤ S2048x512.size a)
    (hs : S128x128.Slices ![r0, 0] S8x128) {off3 : Fin 3 → Nat} (h3 : off3 = ![128 * k + r0, 0, c0])
    (inb3 : ∀ a, off3 a + S8x2x128.size a ≤ S2048x2x512.size a) (p : Vec Ideal S8x2x128 .bf16)
    (hp : p = chunk (View.ld (Val := Elt Ideal) T (Rect.unit off1 S1x2x256.size inb1))
      (extractStridedSlice S8x128 ![r0, 0]
        (k0_pay10 (F := Ideal) (View.ld (Val := Elt Ideal) X (Rect.unit off2 S128x128.size inb2))) hs)) (x : S8x2x128.Idx) :
    p x = weights T X ((Rect.unit (s := S2048x2x512) off3 S8x2x128.size inb3).emb x) :=
  (congrFun hp x).trans (piece T X k r0 c0 h1 inb1 h2 inb2 hs h3 inb3 x)

/-- The row offset of a store is a multiple of eight below 128, so the closed form of its rectangle applies. -/
theorem eights {P : BitVec 32 → Nat → Prop} (h : ∀ r : Fin 16, P (BitVec.ofNat 32 (8 * r.val)) (8 * r.val)) (w : BitVec 32)
    (hw : w.toNat % 8 = 0 ∧ w.toNat < 128) : P w w.toNat := by
  have := h ⟨w.toNat / 8, by omega⟩
  have e : 8 * (w.toNat / 8) = w.toNat := by omega
  simp only [e, BitVec.ofNat_toNat, BitVec.setWidth_eq] at this
  exact this

theorem off3_at (k : Fin k0_t1_loop.trips) (w : BitVec 32) (hw : w.toNat % 8 = 0 ∧ w.toNat < 128) :
    k0_off3 k w = ![128 * k.val + w.toNat, 0, 0] := eights (P := fun w n => k0_off3 k w = ![128 * k.val + n, 0, 0]) (k0_off3_eq k) w hw
theorem off5_at (k : Fin k0_t1_loop.trips) (w : BitVec 32) (hw : w.toNat % 8 = 0 ∧ w.toNat < 128) :
    k0_off5 k w = ![128 * k.val + w.toNat, 0, 128] := eights (P := fun w n => k0_off5 k w = ![128 * k.val + n, 0, 128]) (k0_off5_eq k) w hw
theorem off7_at (k : Fin k0_t1_loop.trips) (w : BitVec 32) (hw : w.toNat % 8 = 0 ∧ w.toNat < 128) :
    k0_off7 k w = ![128 * k.val + w.toNat, 0, 256] := eights (P := fun w n => k0_off7 k w = ![128 * k.val + n, 0, 256]) (k0_off7_eq k) w hw
theorem off9_at (k : Fin k0_t1_loop.trips) (w : BitVec 32) (hw : w.toNat % 8 = 0 ∧ w.toNat < 128) :
    k0_off9 k w = ![128 * k.val + w.toNat, 0, 384] := eights (P := fun w n => k0_off9 k w = ![128 * k.val + n, 0, 384]) (k0_off9_eq k) w hw

/-- The rectangle of a store lies in the buffer. -/
theorem store_inb {k r0 c0 : Nat} {off : Fin 3 → Nat} (h : off = ![128 * k + r0, 0, c0]) (hk : k < 16) (hr : r0 + 8 ≤ 128)
    (hc : c0 + 128 ≤ 512) : ∀ a, off a + S8x2x128.size a ≤ S2048x2x512.size a := by
  subst h
  intro a
  match a with
  | ⟨0, _⟩ =>
    show 128 * k + r0 + 8 ≤ 2048
    omega
  | ⟨1, _⟩ => exact Nat.le_refl 2
  | ⟨2, _⟩ => exact hc

set_option maxRecDepth 8192 in
set_option maxHeartbeats 400000 in
/-- Every piece of a trip is a block of `weights`. -/
theorem trip_pieces (𝒱 : Variants) (c : Dev nD) (bd : Option 𝒱.V) (i : grid0.Coords)
    (arg2 : Memref sig .tc .vmem S1024x4096 .bf16) (harg2 : arg2.IsWhole)
    (arg3 : Memref sig .tc .vmem S2048x512 .i8) (harg3 : arg3.IsWhole)
    (arg4 : Memref sig .tc .vmem S32x256 .i8) (harg4 : arg4.IsWhole)
    (arg5 : Memref sig .tc .vmem S16x1 .f32) (harg5 : arg5.IsWhole)
    (arg6 : Memref sig .tc .vmem S1x512 .f32) (harg6 : arg6.IsWhole)
    (arg7 : Memref sig .tc .vmem S1024x512 .bf16) (harg7 : arg7.IsWhole)
    (arg8 : Memref sig .tc .vmem S16x2x256 .bf16) (harg8 : arg8.IsWhole)
    (arg9 : Memref sig .tc .vmem S2048x2x512 .bf16) (harg9 : arg9.IsWhole)
    (k0_h2 : k0_cond2 i = 1#1) (X_arg3 : BufTy.Contents (Elt Ideal) arg3.view.ty) (X_arg8 : BufTy.Contents (Elt Ideal) arg8.view.ty)
    (k : Fin k0_t1_loop.trips) :
    View.PiecesOf (weights (arg8.view.read (Elt Ideal) X_arg8) (arg3.view.read (Elt Ideal) X_arg3))
      (tripL_k0_t1 (F := Ideal) 𝒱 c bd i arg2 harg2 arg3 harg3 arg4 harg4 arg5 harg5 arg6 harg6 arg7 harg7 arg8 harg8 arg9 harg9 k0_h2 X_arg3 X_arg8 k) := by
  unfold tripL_k0_t1 trip_k0_t1
  dsimp only
  sl_open_run
  have hk : k.val < 16 := Nat.lt_of_lt_of_le k.isLt k0_t1_abs.2.1
  iterate 16
    refine ⟨fun x => piece_of _ _ k.val _ _ (k0_off1_eq k) (k0_off1_inb i k k0_h2) (k0_off8_eq k) (k0_off8_inb i k k0_h2)
      (by decide) (off9_at k _ (by decide)) (store_inb (off9_at k _ (by decide)) hk (by decide) (by decide)) _ (by rfl) x, ?_⟩
  iterate 16
    refine ⟨fun x => piece_of _ _ k.val _ _ (k0_off1_eq k) (k0_off1_inb i k k0_h2) (k0_off6_eq k) (k0_off6_inb i k k0_h2)
      (by decide) (off7_at k _ (by decide)) (store_inb (off7_at k _ (by decide)) hk (by decide) (by decide)) _ (by rfl) x, ?_⟩
  iterate 16
    refine ⟨fun x => piece_of _ _ k.val _ _ (k0_off1_eq k) (k0_off1_inb i k k0_h2) (k0_off4_eq k) (k0_off4_inb i k k0_h2)
      (by decide) (off5_at k _ (by decide)) (store_inb (off5_at k _ (by decide)) hk (by decide) (by decide)) _ (by rfl) x, ?_⟩
  iterate 16
    refine ⟨fun x => piece_of _ _ k.val _ _ (k0_off1_eq k) (k0_off1_inb i k k0_h2) (k0_off2_eq k) (k0_off2_inb i k k0_h2)
      (by decide) (off3_at k _ (by decide)) (store_inb (off3_at k _ (by decide)) hk (by decide) (by decide)) _ (by rfl) x, ?_⟩
  exact trivial

/-- Two lists of blocks of one array are a list of its blocks. -/
theorem piecesOf_append {s : Shape} {e : EltTy} {G : s.Idx → Elt Ideal e} : ∀ {L L' : List (View.Piece (Elt Ideal) s e)},
    View.PiecesOf G L → View.PiecesOf G L' → View.PiecesOf G (L ++ L')
  | [], _, _, h' => h'
  | _ :: _, _, h, h' => ⟨h.1, piecesOf_append h.2 h'⟩

/-- Every piece of the trips before `n` is a block of `weights`. -/
theorem pb_pieces (𝒱 : Variants) (c : Dev nD) (bd : Option 𝒱.V) (i : grid0.Coords)
    (arg2 : Memref sig .tc .vmem S1024x4096 .bf16) (harg2 : arg2.IsWhole)
    (arg3 : Memref sig .tc .vmem S2048x512 .i8) (harg3 : arg3.IsWhole)
    (arg4 : Memref sig .tc .vmem S32x256 .i8) (harg4 : arg4.IsWhole)
    (arg5 : Memref sig .tc .vmem S16x1 .f32) (harg5 : arg5.IsWhole)
    (arg6 : Memref sig .tc .vmem S1x512 .f32) (harg6 : arg6.IsWhole)
    (arg7 : Memref sig .tc .vmem S1024x512 .bf16) (harg7 : arg7.IsWhole)
    (arg8 : Memref sig .tc .vmem S16x2x256 .bf16) (harg8 : arg8.IsWhole)
    (arg9 : Memref sig .tc .vmem S2048x2x512 .bf16) (harg9 : arg9.IsWhole)
    (k0_h2 : k0_cond2 i = 1#1) (X_arg3 : BufTy.Contents (Elt Ideal) arg3.view.ty) (X_arg8 : BufTy.Contents (Elt Ideal) arg8.view.ty)

    (n : Nat) (hn : n ≤ k0_t1_loop.trips) :
    View.PiecesOf (weights (arg8.view.read (Elt Ideal) X_arg8) (arg3.view.read (Elt Ideal) X_arg3))
      (pb_k0_t1 (F := Ideal) 𝒱 c bd i arg2 harg2 arg3 harg3 arg4 harg4 arg5 harg5 arg6 harg6 arg7 harg7 arg8 harg8 arg9 harg9 k0_h2 X_arg3 X_arg8 n) := by
  induction n with
  | zero => exact trivial
  | succ n ih =>
    rw [pb_k0_t1_succ 𝒱 c bd i arg2 harg2 arg3 harg3 arg4 harg4 arg5 harg5 arg6 harg6 arg7 harg7 arg8 harg8 arg9 harg9 k0_h2 X_arg3 X_arg8 ⟨n, hn⟩]
    exact piecesOf_append (trip_pieces 𝒱 c bd i arg2 harg2 arg3 harg3 arg4 harg4 arg5 harg5 arg6 harg6 arg7 harg7 arg8 harg8 arg9 harg9 k0_h2 X_arg3 X_arg8 ⟨n, hn⟩) (ih (Nat.le_of_succ_le hn))

end Cert.KernelIdeal.Weights

end
-- ==== Proof.Point.lean ====
/-
  What one point of the grid leaves, in each of its three cases. The first point fills the table of codes (`k0_pay1` of the
  scales and the codebook) and the weights; the first point of each later column tile fills the weights from the table it
  finds; every other point takes both as it finds them. Each stores the block `k0_pay3` of the weights, its rows of the
  input and its output scales.
-/
module

public import proofs.«01_k».proof.Proof.Weights
public import proofs.«01_k».proof.Proof.Gen.KernelIdeal.Frame
public import Idealize.ShloMosaic.Lib.Pipeline.Value
public import Idealize.ShloMosaic.Lib.Pipeline.ValueKit

@[expose] public section

noncomputable section

namespace Cert.KernelIdeal.Point

open Cert.KernelIdeal Cert.KernelIdeal.Gen Cert.KernelIdeal.Weights
open Idealize.ShloMosaic Idealize.ShloMosaic.TcCoe Idealize.ShloMosaic.Tactic Idealize.ShloMosaic.ValueIdx Idealize.SL.Sem

variable (c : Dev nD) (i : grid0.Coords)
    (arg2 : Memref sig .tc .vmem S1024x4096 .bf16) (harg2 : arg2.IsWhole)
    (arg3 : Memref sig .tc .vmem S2048x512 .i8) (harg3 : arg3.IsWhole)
    (arg4 : Memref sig .tc .vmem S32x256 .i8) (harg4 : arg4.IsWhole)
    (arg5 : Memref sig .tc .vmem S16x1 .f32) (harg5 : arg5.IsWhole)
    (arg6 : Memref sig .tc .vmem S1x512 .f32) (harg6 : arg6.IsWhole)
    (arg7 : Memref sig .tc .vmem S1024x512 .bf16) (harg7 : arg7.IsWhole)
    (arg8 : Memref sig .tc .vmem S16x2x256 .bf16) (harg8 : arg8.IsWhole)
    (arg9 : Memref sig .tc .vmem S2048x2x512 .bf16) (harg9 : arg9.IsWhole)

/-- The sixteen trips together leave `weights` in the scratch. -/
theorem built (k0_h2 : k0_cond2 i = 1#1) (X_arg3 : BufTy.Contents (Elt Ideal) arg3.view.ty) (X_arg8 : BufTy.Contents (Elt Ideal) arg8.view.ty) :
    View.canon (pb_k0_t1 (F := Ideal) Variants.none c none i arg2 harg2 arg3 harg3 arg4 harg4 arg5 harg5 arg6 harg6 arg7 harg7 arg8 harg8 arg9 harg9
      k0_h2 X_arg3 X_arg8 (Scf.trips k0_t1_loop.lb k0_t1_loop.ub k0_t1_loop.st))
      = weights (arg8.view.read (Elt Ideal) X_arg8) (arg3.view.read (Elt Ideal) X_arg3) := by
  funext y
  refine Eq.trans (congrArg (fun L => View.canon L y) (List.append_nil _).symm)
    (View.canon_append_of_piecesOf _ [] _ (pb_pieces Variants.none c none i arg2 harg2 arg3 harg3 arg4 harg4 arg5 harg5 arg6 harg6
      arg7 harg7 arg8 harg8 arg9 harg9 k0_h2 X_arg3 X_arg8 _ (Nat.le_refl _)) y ?_)
  exact View.cover_of_tiledL (pb_k0_t1 (F := Ideal) Variants.none c none i arg2 harg2 arg3 harg3 arg4 harg4 arg5 harg5 arg6 harg6
      arg7 harg7 arg8 harg8 arg9 harg9 k0_h2 X_arg3 X_arg8 (Scf.trips k0_t1_loop.lb k0_t1_loop.ub k0_t1_loop.st)) S8x2x128.size (by sl_kernel_rfl) y

/-- A load of the whole of a whole memref held at `x` reads `x`. -/
theorem readAt_unread {s : Shape} {e : EltTy} (v : Memref sig .tc .vmem s e) (hv : v.IsWhole) (x : s.Idx → Elt Ideal e)
    {off : Fin s.rank → Nat} (inb : ∀ a, off a + s.size a ≤ s.size a) (h : ∀ a, off a = 0) :
    v.view.readAt (Elt Ideal) (Rect.unit off s.size inb).toLoadRect (hv.unread x) = x := by
  rw [View.readAt_eq_ld, hv.read_unread]
  exact View.ld_unit_lit inb x h

/-- A load of the whole of a buffer reads what its stores left. -/
theorem readCov_whole {s : Shape} {e : EltTy} (v : View sig .tc .vmem s e) (L : List (View.Piece (Elt Ideal) s e))
    {off : Fin s.rank → Nat} (inb : ∀ a, off a + s.size a ≤ s.size a) (h : ∀ a, off a = 0) :
    v.readCov L (Rect.unit off s.size inb).toLoadRect = View.canon L := by
  rw [View.readCov_eq_canon']
  exact View.ld_unit_lit inb (View.canon L) h

theorem z2 : ∀ a : Fin 2, (![0, 0] : Fin 2 → Nat) a = 0 := by decide
theorem z3 : ∀ a : Fin 3, (![0, 0, 0] : Fin 3 → Nat) a = 0 := by decide

variable (x0 : Vec Ideal S1024x4096 .bf16) (x1 : Vec Ideal S2048x512 .i8) (x2 : Vec Ideal S32x256 .i8) (x3 : Vec Ideal S16x1 .f32)
    (x4 : Vec Ideal S1x512 .f32)

/-- The first point leaves the table of codes in its scratch. -/
theorem table_A (hc0 : cond0_0 i) (hc1 : cond0_1 i) :
    sout0_A_0 (F := Ideal) c i arg2 harg2 arg3 harg3 arg4 harg4 arg5 harg5 arg6 harg6 arg7 harg7 arg8 harg8 arg9 harg9 hc0 hc1 x0 x1 x2 x3 x4 = k0_pay1 x3 x2 := by
  unfold sout0_A_0
  rw [View.read_writes_junk_eq_canon]
  unfold kernelRun0_A
  dsimp only
  sl_open_run
  rw [readAt_unread arg5 harg5 x3 _ z2, readAt_unread arg4 harg4 x2 _ z2]
  exact View.canon_cons_unit_lit _ _ _ z3

/-- The first point leaves the weights of its columns in their scratch. -/
theorem weights_A (hc0 : cond0_0 i) (hc1 : cond0_1 i) :
    sout0_A_1 (F := Ideal) c i arg2 harg2 arg3 harg3 arg4 harg4 arg5 harg5 arg6 harg6 arg7 harg7 arg8 harg8 arg9 harg9 hc0 hc1 x0 x1 x2 x3 x4 = weights (k0_pay1 x3 x2) x1 := by
  unfold sout0_A_1
  rw [View.read_writes_junk_eq_canon]
  unfold kernelRun0_A
  dsimp only
  sl_open_run
  rw [readAt_unread arg5 harg5 x3 _ z2, readAt_unread arg4 harg4 x2 _ z2]
  refine (built c i arg2 harg2 arg3 harg3 arg4 harg4 arg5 harg5 arg6 harg6 arg7 harg7 arg8 harg8 arg9 harg9 hc1 _ _).trans ?_
  rw [View.read_writes_junk_eq_canon, View.canon_cons_unit_lit _ _ _ z3, harg3.read_unread]

/-- The first point's block of the result. -/
theorem out_A (hc0 : cond0_0 i) (hc1 : cond0_1 i) :
    out0_A_5 (F := Ideal) c i arg2 harg2 arg3 harg3 arg4 harg4 arg5 harg5 arg6 harg6 arg7 harg7 arg8 harg8 arg9 harg9 hc0 hc1 x0 x1 x2 x3 x4 = k0_pay3 (weights (k0_pay1 x3 x2) x1) x0 x4 := by
  unfold out0_A_5
  rw [View.read_writes_junk_eq_canon]
  unfold kernelRun0_A
  dsimp only
  sl_open_run
  rw [readAt_unread arg5 harg5 x3 _ z2, readAt_unread arg4 harg4 x2 _ z2]
  rw [View.canon_cons_unit_lit _ _ _ z2, readAt_unread arg2 harg2 x0 _ z2, readAt_unread arg6 harg6 x4 _ z2]
  refine congrArg (fun w => k0_pay3 w x0 x4) ((readCov_whole _ _ _ z3).trans ?_)
  refine (built c i arg2 harg2 arg3 harg3 arg4 harg4 arg5 harg5 arg6 harg6 arg7 harg7 arg8 harg8 arg9 harg9 hc1 _ _).trans ?_
  rw [View.read_writes_junk_eq_canon, View.canon_cons_unit_lit _ _ _ z3, harg3.read_unread]

/-- The first point of a later column tile leaves the weights of its columns, from the table it found. -/
theorem weights_C (hc0 : ¬ cond0_0 i) (hc1 : cond0_1 i) (xs0 : Vec Ideal S16x2x256 .bf16) :
    sout0_C_1 (F := Ideal) c i arg2 harg2 arg3 harg3 arg4 harg4 arg5 harg5 arg6 harg6 arg7 harg7 arg8 harg8 arg9 harg9 hc0 hc1 x0 x1 x2 x3 x4 xs0 = weights xs0 x1 := by
  unfold sout0_C_1
  rw [View.read_writes_junk_eq_canon]
  unfold kernelRun0_C
  dsimp only
  sl_open_run
  refine (built c i arg2 harg2 arg3 harg3 arg4 harg4 arg5 harg5 arg6 harg6 arg7 harg7 arg8 harg8 arg9 harg9 hc1 _ _).trans ?_
  rw [harg8.read_unread, harg3.read_unread]

/-- The block of the result of the first point of a later column tile. -/
theorem out_C (hc0 : ¬ cond0_0 i) (hc1 : cond0_1 i) (xs0 : Vec Ideal S16x2x256 .bf16) :
    out0_C_5 (F := Ideal) c i arg2 harg2 arg3 harg3 arg4 harg4 arg5 harg5 arg6 harg6 arg7 harg7 arg8 harg8 arg9 harg9 hc0 hc1 x0 x1 x2 x3 x4 xs0 = k0_pay3 (weights xs0 x1) x0 x4 := by
  unfold out0_C_5
  rw [View.read_writes_junk_eq_canon]
  unfold kernelRun0_C
  dsimp only
  sl_open_run
  rw [View.canon_cons_unit_lit _ _ _ z2, readAt_unread arg2 harg2 x0 _ z2, readAt_unread arg6 harg6 x4 _ z2]
  refine congrArg (fun w => k0_pay3 w x0 x4) ((readCov_whole _ _ _ z3).trans ?_)
  refine (built c i arg2 harg2 arg3 harg3 arg4 harg4 arg5 harg5 arg6 harg6 arg7 harg7 arg8 harg8 arg9 harg9 hc1 _ _).trans ?_
  rw [harg8.read_unread, harg3.read_unread]

/-- The block of the result of every other point, from the weights it found. -/
theorem out_B (hc0 : ¬ cond0_0 i) (hc1 : ¬ cond0_1 i) (xs0 : Vec Ideal S16x2x256 .bf16) (xs1 : Vec Ideal S2048x2x512 .bf16) :
    out0_B_5 (F := Ideal) c i arg2 harg2 arg3 harg3 arg4 harg4 arg5 harg5 arg6 harg6 arg7 harg7 arg8 harg8 arg9 harg9 hc0 hc1 x0 x1 x2 x3 x4 xs0 xs1 = k0_pay3 xs1 x0 x4 := by
  unfold out0_B_5
  rw [View.read_writes_junk_eq_canon]
  unfold kernelRun0_B
  dsimp only
  sl_open_run
  rw [View.canon_cons_unit_lit _ _ _ z2, readAt_unread arg2 harg2 x0 _ z2, readAt_unread arg6 harg6 x4 _ z2]
  rw [readAt_unread arg9 harg9 xs1 _ z3]

end Cert.KernelIdeal.Point

end
-- ==== Proof.Blocks.lean ====
/-
  What each block holds, in terms of the arguments: point `t = 6 n + m` takes the rows `1024 m, …` of the input, the columns
  `512 n, …` of the codes and of the output scales, and the whole of the codebook and of its scales.
-/
module

public import proofs.«01_k».proof.Proof.Gen.KernelIdeal.Frame
public import Idealize.ShloMosaic.Lib.Pipeline.Value
public import Idealize.ShloMosaic.Lib.Pipeline.ValueKit
public import Idealize.ShloMosaic.Lib.Claim
public import Idealize.ShloMosaic.Lib.ValueIdx

@[expose] public section

set_option maxRecDepth 16384

noncomputable section

namespace Cert.KernelIdeal.Blocks

open Cert.KernelIdeal Cert.KernelIdeal.Gen
open Idealize.ShloMosaic hiding ix1 ix2 ix3 eq_ix2
open Idealize.ShloMosaic.TcCoe Idealize.ShloMosaic.Tactic Idealize.ShloMosaic.ValueIdx Idealize.SL.Sem

variable (m : (ℓ : Loc nD τ sig) → Buf (Elt Ideal) ℓ) (c : Dev nD)

/-- The codebook that the host prepares: the halves outermost, then the row blocks. -/
theorem V_v1 : V m c main_v1 = shapeCast S32x256
    (transpose S2x16x256 [2, 0, 1] (m ((c : Thread nD τ).loc main_arg2)) transposes_S16x256x2_S2x16x256_2_0_1) shapeCasts_S2x16x256_S32x256 := by
  unfold_abbrev_sides; after_results; rfl
/-- The input, its batches one after the other. -/
theorem V_v2 : V m c main_v2 = shapeCast S6144x4096 (m ((c : Thread nD τ).loc main_arg0)) shapeCasts_S4x1536x4096_S6144x4096 := by
  unfold_abbrev_sides; after_results; rfl
/-- The codebook's scales as a column. -/
theorem V_v4 : V m c main_v4 = broadcastInDim S16x1 ![0] bcast_S16_S16x1_0
    (extf (F := Ideal) .f32 (m ((c : Thread nD τ).loc main_arg3)) bitsLt_bf16_f32) := by
  unfold_abbrev_sides; after_results
/-- The output scales as a row. -/
theorem V_v5 : V m c main_v5 = broadcastInDim S1x14336 ![1] bcast_S14336_S1x14336_1 (m ((c : Thread nD τ).loc main_arg4)) := by
  unfold_abbrev_sides; after_results

/-- Which block each window takes at point `t`. -/
theorem idx : ∀ t : Fin cfg0.N, win0_0.index t = ![t.val % 6, 0] ∧ win0_1.index t = ![0, t.val / 6] ∧ win0_2.index t = ![0, 0]
    ∧ win0_3.index t = ![0, 0] ∧ win0_4.index t = ![0, t.val / 6] :=
  (by decide +kernel : ∀ t : Fin grid0.N, _)

/-- There are 168 points. -/
theorem lt_N (t : Fin cfg0.N) : t.val < 168 := lt_of_lt_of_eq t.isLt N_0

/-- Row `r` of the input's block is row `1024 (t % 6) + r` of the input, its batch and its place in the batch read off. -/
theorem iblk0 (t : Fin cfg0.N) (r : Fin 1024) (k : Fin 4096) : iblk m c 0 t (ix2 r k)
    = m ((c : Thread nD τ).loc main_arg0) (ix3 ⟨(1024 * (t.val % 6) + r.val) / 1536, by have := r.isLt; omega⟩
        ⟨(1024 * (t.val % 6) + r.val) % 1536, by omega⟩ k) := by
  have e : iblk m c 0 t (ix2 r k) = V m c main_v2 (ix2 ⟨1024 * (t.val % 6) + r.val, by have := r.isLt; omega⟩ k) := by
    unfold iblk
    refine congrArg (V m c main_v2) (funext fun a => Fin.ext ?_)
    obtain ⟨h, _⟩ := idx t
    match a with
    | ⟨0, _⟩ => show win0_0.index t 0 * 1024 + 1 * r.val = 1024 * (t.val % 6) + r.val; rw [h]; show t.val % 6 * 1024 + 1 * r.val = _; omega
    | ⟨1, _⟩ => show win0_0.index t 1 * 4096 + 1 * k.val = k.val; rw [h]; show 0 * 4096 + 1 * k.val = _; omega
  rw [e, V_v2]
  refine shapeCast_apply (s := S4x1536x4096) _ _ _ _ ?_
  rw [Shape.rowMajor_val_three, Shape.rowMajor_val_two]
  show ((1024 * (t.val % 6) + r.val) / 1536 * 1536 + (1024 * (t.val % 6) + r.val) % 1536) * 4096 + k.val
    = (1024 * (t.val % 6) + r.val) * 4096 + k.val
  omega

/-- Column `l` of the codes' block is column `512 (t / 6) + l` of the codes. -/
theorem iblk1 (t : Fin cfg0.N) (r : Fin 2048) (l : Fin 512) : iblk m c 1 t (ix2 r l)
    = m ((c : Thread nD τ).loc main_arg1) (ix2 r ⟨512 * (t.val / 6) + l.val, by have := l.isLt; have := lt_N t; omega⟩) := by
  refine Eq.trans ?_ (congrFun (V_main_arg1 m c) _)
  unfold iblk
  refine congrArg (V m c main_arg1) (funext fun a => Fin.ext ?_)
  obtain ⟨_, h, _⟩ := idx t
  match a with
  | ⟨0, _⟩ => show win0_1.index t 0 * 2048 + 1 * r.val = r.val; rw [h]; show 0 * 2048 + 1 * r.val = _; omega
  | ⟨1, _⟩ => show win0_1.index t 1 * 512 + 1 * l.val = 512 * (t.val / 6) + l.val; rw [h]; show t.val / 6 * 512 + 1 * l.val = _; omega

/-- Row `16 h + b` of the codebook's block is half `h` of the codes of row block `b`. -/
theorem iblk2 (t : Fin cfg0.N) (b : Fin 16) (h : Fin 2) (q : Fin 256) :
    iblk m c 2 t (ix2 ⟨16 * h.val + b.val, by have := b.isLt; have := h.isLt; omega⟩ q) = m ((c : Thread nD τ).loc main_arg2) (ix3 b q h) := by
  have e : iblk m c 2 t (ix2 ⟨16 * h.val + b.val, by have := b.isLt; have := h.isLt; omega⟩ q)
      = V m c main_v1 (ix2 ⟨16 * h.val + b.val, by have := b.isLt; have := h.isLt; omega⟩ q) := by
    unfold iblk
    refine congrArg (V m c main_v1) (funext fun a => Fin.ext ?_)
    obtain ⟨_, _, h2, _⟩ := idx t
    match a with
    | ⟨0, _⟩ => show win0_2.index t 0 * 32 + 1 * (16 * h.val + b.val) = 16 * h.val + b.val; rw [h2]; show 0 * 32 + _ = _; omega
    | ⟨1, _⟩ => show win0_2.index t 1 * 256 + 1 * q.val = q.val; rw [h2]; show 0 * 256 + _ = _; omega
  rw [e, V_v1]
  refine (shapeCast_apply _ _ _ (ix3 h b q) ?_).trans ?_
  · rw [Shape.rowMajor_val_three, Shape.rowMajor_val_two]
    show (h.val * 16 + b.val) * 256 + q.val = (16 * h.val + b.val) * 256 + q.val
    omega
  · unfold transpose
    refine congrArg (m ((c : Thread nD τ).loc main_arg2)) (funext fun a => Fin.ext ?_)
    match a with
    | ⟨0, _⟩ => rfl
    | ⟨1, _⟩ => rfl
    | ⟨2, _⟩ => rfl

/-- The block of the codebook's scales. -/
theorem iblk3 (t : Fin cfg0.N) (b : Fin 16) (z : Fin 1) : iblk m c 3 t (ix2 b z) = m ((c : Thread nD τ).loc main_arg3) (ix1 b) := by
  have e : iblk m c 3 t (ix2 b z) = V m c main_v4 (ix2 b z) := by
    unfold iblk
    refine congrArg (V m c main_v4) (funext fun a => Fin.ext ?_)
    obtain ⟨_, _, _, h, _⟩ := idx t
    match a with
    | ⟨0, _⟩ => show win0_3.index t 0 * 16 + 1 * b.val = b.val; rw [h]; show 0 * 16 + _ = _; omega
    | ⟨1, _⟩ => show win0_3.index t 1 * 1 + 1 * z.val = z.val; rw [h]; show 0 * 1 + _ = _; omega
  rw [e, V_v4]
  refine broadcastInDim_apply _ _ _ _ (ix1 b) (fun a => ?_)
  match a with
  | ⟨0, _⟩ => show b.val = if (16 : Nat) = 1 then 0 else b.val; rw [if_neg (by decide)]

/-- Column `l` of the output scales' block is column `512 (t / 6) + l` of the output scales. -/
theorem iblk4 (t : Fin cfg0.N) (z : Fin 1) (l : Fin 512) : iblk m c 4 t (ix2 z l)
    = m ((c : Thread nD τ).loc main_arg4) (ix1 ⟨512 * (t.val / 6) + l.val, by have := l.isLt; have := lt_N t; omega⟩) := by
  have e : iblk m c 4 t (ix2 z l) = V m c main_v5 (ix2 z ⟨512 * (t.val / 6) + l.val, by have := l.isLt; have := lt_N t; omega⟩) := by
    unfold iblk
    refine congrArg (V m c main_v5) (funext fun a => Fin.ext ?_)
    obtain ⟨_, _, _, _, h⟩ := idx t
    match a with
    | ⟨0, _⟩ => show win0_4.index t 0 * 1 + 1 * z.val = z.val; rw [h]; show 0 * 1 + _ = _; omega
    | ⟨1, _⟩ => show win0_4.index t 1 * 512 + 1 * l.val = 512 * (t.val / 6) + l.val; rw [h]; show t.val / 6 * 512 + _ = _; omega
  rw [e, V_v5]
  refine broadcastInDim_apply _ _ _ _ (ix1 _) (fun a => ?_)
  match a with
  | ⟨0, _⟩ => show 512 * (t.val / 6) + l.val = if (14336 : Nat) = 1 then 0 else 512 * (t.val / 6) + l.val; rw [if_neg (by decide)]

/-- Points of one column tile take the same codes. -/
theorem iblk1_congr (t t' : Fin cfg0.N) (h : t.val / 6 = t'.val / 6) : iblk m c 1 t = iblk m c 1 t' := by
  have key : ∀ y : S2048x512.Idx, iblk m c 1 t y = iblk m c 1 t' y := fun y => by
    rw [eq_ix2 y]
    refine (iblk1 m c t (y 0) (y 1)).trans (Eq.trans ?_ (iblk1 m c t' (y 0) (y 1)).symm)
    refine congrArg (m ((c : Thread nD τ).loc main_arg1)) (funext fun a => Fin.ext ?_)
    match a with
    | ⟨0, _⟩ => rfl
    | ⟨1, _⟩ => show 512 * (t.val / 6) + (y 1).val = 512 * (t'.val / 6) + (y 1).val; rw [h]
  exact funext key

end Cert.KernelIdeal.Blocks

end
-- ==== Proof.Sweep.lean ====
/-
  What each point leaves, over the whole grid: the first point's table of codes stays, the weights are those of the point's
  column tile, and the block stored is that of the weights, the point's rows of the input and its output scales.
-/
module

public import proofs.«01_k».proof.Proof.Point
public import proofs.«01_k».proof.Proof.Blocks

@[expose] public section

noncomputable section

namespace Cert.KernelIdeal.Sweep

open Cert.KernelIdeal Cert.KernelIdeal.Gen Cert.KernelIdeal.Weights Cert.KernelIdeal.Point Cert.KernelIdeal.Blocks
open Idealize.ShloMosaic Idealize.ShloMosaic.TcCoe Idealize.SL.Sem

variable (m : (ℓ : Loc nD τ sig) → Buf (Elt Ideal) ℓ) (c : Dev nD)

/-- The table of codes that the first point fills. -/
def table : Vec Ideal S16x2x256 .bf16 :=
  k0_pay1 (iblk m c 3 ⟨0, lt_of_lt_of_eq (by decide) N_0.symm⟩) (iblk m c 2 ⟨0, lt_of_lt_of_eq (by decide) N_0.symm⟩)

/-- What point `t` leaves: its block, the table and the weights. -/
def left (t : Fin cfg0.N) : Vec Ideal S1024x512 .bf16 × Vec Ideal S16x2x256 .bf16 × Vec Ideal S2048x2x512 .bf16 :=
  (k0_pay3 (weights (table m c) (iblk m c 1 t)) (iblk m c 0 t) (iblk m c 4 t), table m c, weights (table m c) (iblk m c 1 t))

/-- Every point leaves that, by induction over the points. -/
theorem outs : ∀ (n : ℕ) (hn : n < cfg0.N), outsAt0 m c n hn = left m c ⟨n, hn⟩
  | 0, hn => by
    refine (outsAt0_A m c ⟨0, hn⟩ (Nat.zero_mod _) (Nat.zero_mod _)).trans ?_
    rw [out_A, table_A, weights_A]
    rfl
  | n + 1, hn => by
    have hN : n + 1 < 168 := lt_of_lt_of_eq hn N_0
    have ih := outs n (Nat.lt_of_succ_lt hn)
    have h0 : ¬ (n + 1) % 168 = 0 := by omega
    by_cases h1 : (n + 1) % 6 = 0
    · refine (outsAt0_C m c ⟨n + 1, hn⟩ h0 h1).trans ?_
      rw [out_C, weights_C]
      unfold sout0_C_0
      simp only [Nat.add_sub_cancel, ih]
      rfl
    · refine (outsAt0_B m c ⟨n + 1, hn⟩ h0 h1).trans ?_
      rw [out_B]
      unfold sout0_B_0 sout0_B_1
      simp only [Nat.add_sub_cancel, ih]
      unfold left
      rw [iblk1_congr m c ⟨n, Nat.lt_of_succ_lt hn⟩ ⟨n + 1, hn⟩ (by show n / 6 = (n + 1) / 6; omega)]

end Cert.KernelIdeal.Sweep

end
-- ==== Proof.Product.lean ====
/-
  The two payloads of a point at one element: an entry of the table of codes, and an element of the block stored, whose sum
  over the 4096 interleaved rows of weights is the sum over the even rows plus the sum over the odd rows.
-/
module

public import proofs.«01_k».proof.Proof.Gen.KernelIdeal.Skeleton
public import Idealize.ShloMosaic.Lib.MatmulPlain
public import Idealize.ShloMosaic.Lib.Pointwise.Sums
public import Idealize.ShloMosaic.Lib.Pipeline.Value
public import Idealize.ShloMosaic.Lib.ValueIdx

@[expose] public section

set_option maxRecDepth 16384

noncomputable section

namespace Cert.KernelIdeal.Product

open Cert.KernelIdeal Cert.KernelIdeal.Gen
open Idealize.ShloMosaic hiding ix1 ix2 ix3 eq_ix2
open Idealize.ShloMosaic.ValueIdx
open scoped BigOperators

/-- Half `h` of the codes' values that the table holds: the codes from row `16 h` on, times the scale of their row block. -/
theorem half_apply (s : Vec Ideal S16x1 .f32) (x : Vec Ideal S32x256 .i8) (o : Nat) (hs : S32x256.Slices ![o, 0] S16x256)
    (b : Fin 16) (q : Fin 256) (hb : o + b.val < 32) :
    mulf (extractStridedSlice S16x256 ![o, 0] (sitofp (F := Ideal) .f32 (extsi 32 x natLt_8_32)) hs)
      (broadcastTo S16x256 s broadcasts_S16x1_S16x256) (ix2 b q)
      = FloatOps.mulf (F := Ideal) (φ := .f32) (FloatOps.sitofp (F := Ideal) .f32 (BitVec.signExtend 32 (x (ix2 ⟨o + b.val, hb⟩ q)))) (s (ix2 b 0)) := by
  have e1 : extractStridedSlice S16x256 ![o, 0] (sitofp (F := Ideal) .f32 (extsi 32 x natLt_8_32)) hs (ix2 b q)
      = sitofp (F := Ideal) .f32 (extsi 32 x natLt_8_32) (ix2 ⟨o + b.val, hb⟩ q) :=
    extractStridedSlice_apply (s := S32x256) ![o, 0] (sitofp (F := Ideal) .f32 (extsi 32 x natLt_8_32)) hs (ix2 b q) (ix2 ⟨o + b.val, hb⟩ q) (fun a => match a with
      | ⟨0, _⟩ => rfl
      | ⟨1, _⟩ => (Nat.zero_add _).symm)
  have e2 : broadcastTo S16x256 s broadcasts_S16x1_S16x256 (ix2 b q) = s (ix2 b 0) :=
    broadcastTo_apply _ _ _ _ (fun a => match a with
      | ⟨0, _⟩ => by show b.val = if (16 : Nat) = 1 then 0 else b.val; rw [if_neg (by decide)]
      | ⟨1, _⟩ => by show 0 = if (1 : Nat) = 1 then 0 else q.val; rw [if_pos rfl])
  show FloatOps.mulf (extractStridedSlice S16x256 ![o, 0] (sitofp (F := Ideal) .f32 (extsi 32 x natLt_8_32)) hs (ix2 b q))
    (broadcastTo S16x256 s broadcasts_S16x1_S16x256 (ix2 b q)) = _
  rw [e1, e2]
  rfl

/-- Two 16 × 256 arrays paired: member 0 of a pair is the first array's entry, member 1 the second's. -/
theorem pair_apply (u v : FVec Ideal S16x256 .bf16) (b : Fin 16) (h : Fin 2) (q : Fin 256) :
    interleaveRows S16x2x256 (shapeCast S16x1x256 u shapeCasts_S16x256_S16x1x256)
      (shapeCast S16x1x256 v shapeCasts_S16x256_S16x1x256) bitcasts_S16x2x256_w16_S16x1x256_w32 (ix3 b h q)
      = if h.val = 0 then u (ix2 b q) else v (ix2 b q) := by
  have h1 : ∀ (x : FVec Ideal S16x256 .bf16) (k : S16x1x256.Idx), (k 0).val = b.val → (k 2).val = q.val →
      shapeCast S16x1x256 x shapeCasts_S16x256_S16x1x256 k = x (ix2 b q) := fun x k e0 e2 => by
    refine shapeCast_apply _ _ _ _ ?_
    have e1 : (k 1).val = 0 := by have : (k 1).val < 1 := (k 1).isLt; omega
    rw [Shape.rowMajor_val_two, Shape.rowMajor_val_three, e0, e1, e2]
    show b.val * 256 + q.val = (b.val * 1 + 0) * 256 + q.val
    omega
  unfold interleaveRows
  dsimp only
  rw [h1 u _ rfl rfl, h1 v _ rfl rfl]
  refine if_congr ?_ rfl rfl
  show h.val % 2 = 0 ↔ h.val = 0
  omega

/-- Entry `q` of half `h` of row block `b` of the table: the code's value times the scale of the row block. -/
theorem table_apply (s : Vec Ideal S16x1 .f32) (x : Vec Ideal S32x256 .i8) (b : Fin 16) (h : Fin 2) (q : Fin 256) :
    k0_pay1 s x (ix3 b h q) = FloatOps.mulf (F := Ideal) (φ := .f32)
      (FloatOps.sitofp (F := Ideal) .f32 (BitVec.signExtend 32 (x (ix2 ⟨16 * h.val + b.val, by have := b.isLt; have := h.isLt; omega⟩ q)))) (s (ix2 b 0)) := by
  unfold k0_pay1
  rw [shapeCast_self, shapeCast_self, pair_apply]
  have hb := b.isLt
  match h with
  | ⟨0, _⟩ =>
    refine (if_pos rfl).trans ((half_apply s x 0 slices_S32x256_o0_0_S16x256 b q (by omega)).trans ?_)
    rfl
  | ⟨1, _⟩ =>
    refine (if_neg Nat.one_ne_zero).trans ((half_apply s x 16 slices_S32x256_o16_0_S16x256 b q (by omega)).trans ?_)
    rfl

/-- The weights as the rows of one array: row `2 j + h` is half `h` of pair `j`. -/
theorem rows_apply (W : Vec Ideal S2048x2x512 .bf16) (j : Fin 2048) (h : Fin 2) (l : Fin 512) :
    interleaveRows S4096x512 (shapeCast S2048x512 (rowsOfParity 0 S2048x1x512 W bitcasts_S2048x2x512_w16_S2048x1x512_w32) shapeCasts_S2048x1x512_S2048x512)
      (shapeCast S2048x512 (rowsOfParity 1 S2048x1x512 W bitcasts_S2048x2x512_w16_S2048x1x512_w32) shapeCasts_S2048x1x512_S2048x512)
      bitcasts_S4096x512_w16_S2048x512_w32 (ix2 ⟨j.val * 2 + h.val, by have := j.isLt; have := h.isLt; omega⟩ l) = W (ix3 j h l) := by
  have hj := j.isLt
  have hh := h.isLt
  have h1 : ∀ (p : Fin 2) (k : S2048x512.Idx), (k 0).val = j.val → (k 1).val = l.val →
      shapeCast S2048x512 (rowsOfParity p S2048x1x512 W bitcasts_S2048x2x512_w16_S2048x1x512_w32) shapeCasts_S2048x1x512_S2048x512 k
        = W (ix3 j p l) := fun p k e0 e1 => by
    refine (shapeCast_apply _ _ _ (ix3 j (0 : Fin 1) l) ?_).trans ?_
    · rw [Shape.rowMajor_val_two, Shape.rowMajor_val_three, e0, e1]
      show (j.val * 1 + 0) * 512 + l.val = j.val * 512 + l.val
      omega
    · unfold rowsOfParity
      refine congrArg W (funext fun a => Fin.ext ?_)
      match a with
      | ⟨0, _⟩ => rfl
      | ⟨1, _⟩ => show 2 * 0 + p.val = p.val; omega
      | ⟨2, _⟩ => rfl
  unfold interleaveRows
  dsimp only
  rw [h1 0 _ (by show (j.val * 2 + h.val) / 2 = j.val; omega) rfl, h1 1 _ (by show (j.val * 2 + h.val) / 2 = j.val; omega) rfl]
  match h with
  | ⟨0, _⟩ => exact if_pos (by show (j.val * 2 + 0) % 2 = 0; omega)
  | ⟨1, _⟩ => exact if_neg (by show ¬ (j.val * 2 + 1) % 2 = 0; omega)

/-- A sum over 4096 places is the sum over the even places plus the sum over the odd places. -/
theorem sum_even_odd (f : Fin 4096 → EReal) : ∑ k : Fin 4096, f k
    = (∑ j : Fin 2048, f ⟨j.val * 2 + 0, by have := j.isLt; omega⟩) + ∑ j : Fin 2048, f ⟨j.val * 2 + 1, by have := j.isLt; omega⟩ := by
  rw [Fin.sum_univ_tiles 2048 2 rfl f, ← Finset.sum_add_distrib]
  refine Finset.sum_congr rfl fun j _ => ?_
  rw [Fin.sum_univ_two]
  rfl

/-- An element of the block stored: the even columns of a row of the input times the even weights, plus the odd columns
    times the odd weights, times the output scale of the column. -/
theorem block_apply (W : Vec Ideal S2048x2x512 .bf16) (X : Vec Ideal S1024x4096 .bf16) (s : Vec Ideal S1x512 .f32) (r : Fin 1024) (l : Fin 512) :
    k0_pay3 W X s (ix2 r l)
      = ((∑ j : Fin 2048, (X (ix2 r ⟨j.val * 2 + 0, by have := j.isLt; omega⟩) : EReal) * W (ix3 j 0 l))
        + ∑ j : Fin 2048, (X (ix2 r ⟨j.val * 2 + 1, by have := j.isLt; omega⟩) : EReal) * W (ix3 j 1 l)) * s (ix2 0 l) := by
  unfold k0_pay3
  rw [shapeCast_self, shapeCast_self]
  have e2 : broadcastTo S1024x512 s broadcasts_S1x512_S1024x512 (ix2 r l) = s (ix2 0 l) :=
    broadcastTo_apply _ _ _ _ (fun a => match a with
      | ⟨0, _⟩ => by show 0 = if (1 : Nat) = 1 then 0 else r.val; rw [if_pos rfl]
      | ⟨1, _⟩ => by show l.val = if (512 : Nat) = 1 then 0 else l.val; rw [if_neg (by decide)])
  generalize hR : interleaveRows S4096x512 _ _ _ = R
  have e1 : matmul (F := Ideal) (φ₁ := .bf16) (φ₂ := .bf16) dot_S1024x4096_S4096x512_S1024x512_1_0_0_1_n_n none X R (constant S1024x512 .f32 0x00000000#32) (ix2 r l)
      = ∑ k : Fin 4096, (X (ix2 r k) : EReal) * R (ix2 k l) := by
    refine (Ideal.matmul_plain_apply (φ₁ := .bf16) (φ₂ := .bf16) none X R (constant S1024x512 .f32 0x00000000#32) r l).trans ?_
    refine (congrArg (· + _) Ideal.ofBits_zero_f32).trans (zero_add _)
  show FloatOps.mulf (F := Ideal) (φ := .f32) (matmul (F := Ideal) (φ₁ := .bf16) (φ₂ := .bf16) dot_S1024x4096_S4096x512_S1024x512_1_0_0_1_n_n none X R (constant S1024x512 .f32 0x00000000#32) (ix2 r l))
    (broadcastTo S1024x512 s broadcasts_S1x512_S1024x512 (ix2 r l)) = _
  rw [e1, e2, sum_even_odd]
  subst hR
  refine congrArg (fun z : EReal => z * s (ix2 0 l)) (congrArg₂ (· + ·) ?_ ?_)
  · exact Finset.sum_congr rfl fun j _ => congrArg (fun z : EReal => X (ix2 r _) * z) (rows_apply W j 0 l)
  · exact Finset.sum_congr rfl fun j _ => congrArg (fun z : EReal => X (ix2 r _) * z) (rows_apply W j 1 l)

end Cert.KernelIdeal.Product

end
-- ==== Proof.Reference.lean ====
/-
  What the reference computes, at one element: the even and the odd columns of a row of the input times the weights that the
  codes pick out of the scaled codebook, times the output scale of the column.
-/
module

public import proofs.«01_k».proof.Proof.Gen.ReferenceIdeal.Read
public import Idealize.ShloMosaic.Lib.ValueIdx

@[expose] public section

set_option maxRecDepth 16384

noncomputable section

namespace Cert.ReferenceIdeal.Result

open Cert.ReferenceIdeal Cert.ReferenceIdeal.Gen Cert.ReferenceIdeal.Read
open Idealize.ShloMosaic Idealize.ShloMosaic.TcCoe Idealize.ShloMosaic.ValueIdx Idealize.SL.Sem
open scoped BigOperators

/-- A code as a row number of the codebook: its eight bits read unsigned. -/
def code (b : BitVec 8) : Fin 256 := ⟨b.toNat, b.isLt⟩

/-- Taking along axis 1: where the start index of `(r, n)` is the code `q`, the result is the operand at `(r, q)`. -/
theorem gather_apply {α : Type} (x : S2048x256.Idx → α) (idx : IVec S2048x14336x1 32) (r : Fin 2048) (n : Fin 14336) (q : Fin 256)
    (hq : idx (ix3 r n (0 : Fin 1)) = BitVec.ofNat 32 q.val) :
    Host.gather gather_S2048x256_S2048x14336x1_S2048x14336_n_1_0_0_1_2_11 x idx (ix2 r n) = x (ix2 r q) := by
  unfold Host.gather
  refine congrArg x (funext fun a => Fin.ext ?_)
  match a with
  | ⟨0, _⟩ =>
    show GatherDims.start gather_S2048x256_S2048x14336x1_S2048x14336_n_1_0_0_1_2_11 (ix2 r n) idx 0
      + GatherDims.batchCoord gather_S2048x256_S2048x14336x1_S2048x14336_n_1_0_0_1_2_11 (ix2 r n) 0
      + GatherDims.offCoord gather_S2048x256_S2048x14336x1_S2048x14336_n_1_0_0_1_2_11 (ix2 r n) 0 = r.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S2048x256_S2048x14336x1_S2048x14336_n_1_0_0_1_2_11.operandBatchingDims from List.mem_singleton.mpr rfl)]
    rfl
  | ⟨1, _⟩ =>
    show GatherDims.start gather_S2048x256_S2048x14336x1_S2048x14336_n_1_0_0_1_2_11 (ix2 r n) idx 1
      + GatherDims.batchCoord gather_S2048x256_S2048x14336x1_S2048x14336_n_1_0_0_1_2_11 (ix2 r n) 1
      + GatherDims.offCoord gather_S2048x256_S2048x14336x1_S2048x14336_n_1_0_0_1_2_11 (ix2 r n) 1 = q.val
    rw [GatherDims.batchCoord_eq_zero _ _ _ (fun h => Nat.one_ne_zero (congrArg Fin.val (List.mem_singleton.mp h))),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S2048x256_S2048x14336x1_S2048x14336_n_1_0_0_1_2_11.startIndexMap from List.mem_singleton.mpr rfl)]
    have hsi : gather_S2048x256_S2048x14336x1_S2048x14336_n_1_0_0_1_2_11.siIdx (ix2 r n)
        ⟨List.idxOf (1 : Fin 2) gather_S2048x256_S2048x14336x1_S2048x14336_n_1_0_0_1_2_11.startIndexMap,
          List.idxOf_lt_length_iff.2 (List.mem_singleton.mpr rfl)⟩ = ix3 r n (0 : Fin 1) := by
      funext b; refine Fin.ext ?_
      match b with
      | ⟨0, _⟩ => rfl
      | ⟨1, _⟩ => rfl
      | ⟨2, _⟩ => rfl
    have hqt : (BitVec.ofNat 32 q.val).toInt = (q.val : Int) := by
      have := q.isLt
      rw [BitVec.toInt_eq_toNat_of_lt (by rw [BitVec.toNat_ofNat]; omega), BitVec.toNat_ofNat]; omega
    rw [hsi, hq, hqt]
    show min ((q.val : Int)).toNat (256 - 1) = q.val
    have := q.isLt
    omega

/-- An eight-bit code widened to 32 bits is not negative, so the wrap of negative indices leaves it. -/
theorem index_eq (b : BitVec 8) : Scalar.select (IntOp.cmpi .slt (b.setWidth 32) 0#32) (IntOp.addi (b.setWidth 32) 256#32) (b.setWidth 32)
    = BitVec.ofNat 32 (code b).val := by
  have h : ∀ b : BitVec 8, Scalar.select (IntOp.cmpi .slt (b.setWidth 32) 0#32) (IntOp.addi (b.setWidth 32) 256#32) (b.setWidth 32)
    = BitVec.ofNat 32 b.toNat := by decide +kernel
  exact h b

variable (x0 : (⟨S4x1536x4096, .bf16⟩ : BufTy).Contents (Elt Ideal)) (x1 : (⟨S2048x14336, .i8⟩ : BufTy).Contents (Elt Ideal))
  (x2 : (⟨S16x256x2, .i8⟩ : BufTy).Contents (Elt Ideal)) (x3 : (⟨S16, .bf16⟩ : BufTy).Contents (Elt Ideal))
  (x4 : (⟨S14336, .f32⟩ : BufTy).Contents (Elt Ideal))

/-- Half `h` of the weights that code `q` of row block `b` stands for: the code's integer times the block's scale. -/
def entry (b : Fin 16) (q : Fin 256) (h : Fin 2) : Ideal .bf16 :=
  FloatOps.mulf (F := Ideal) (φ := .bf16) (FloatOps.sitofp (F := Ideal) .f32 (BitVec.signExtend 32 (x2 (ix3 b q h)))) (x3 (ix1 b))

/-- The weight at row `2 j + h`, column `n`. -/
def weight (h : Fin 2) (j : Fin 2048) (n : Fin 14336) : Ideal .bf16 :=
  entry x2 x3 ⟨j.val / 128, by have := j.isLt; omega⟩ (code (x1 (ix2 j n))) h

/-- The input at flat row `r`, column `2 j + h`. -/
def input (r : Fin 6144) (j : Fin 2048) (h : Fin 2) : Ideal .bf16 :=
  x0 (ix3 ⟨r.val / 1536, by have := r.isLt; omega⟩ ⟨r.val % 1536, by omega⟩ ⟨2 * j.val + h.val, by have := j.isLt; have := h.isLt; omega⟩)

/-- The result at row `r`, column `n`. -/
def result (r : Fin 6144) (n : Fin 14336) : EReal :=
  ((∑ j : Fin 2048, input x0 r j 0 * weight x1 x2 x3 0 j n) + (∑ j : Fin 2048, input x0 r j 1 * weight x1 x2 x3 1 j n)) * x4 (ix1 n)

/-- The repeated table: row `j` holds the scaled codes of row block `j / 128`. -/
theorem v7 (j : Fin 2048) (q : Fin 256) (h : Fin 2) : val_main_v7 (F := Ideal) x2 x3 (ix3 j q h)
    = entry x2 x3 ⟨j.val / 128, by have := j.isLt; omega⟩ q h := by
  have hj := j.isLt; have hq := q.isLt; have hh := h.isLt
  have e1 : idx_main_v6 (idx_main_v7 (ix3 j q h)) = ix3 (⟨j.val / 128, by omega⟩ : Fin 16) q h := funext fun a => Fin.ext (by
    match a with
    | ⟨0, _⟩ => show ((j.val * 256 + q.val) * 2 + h.val) / 65536 = j.val / 128; omega
    | ⟨1, _⟩ => show ((j.val * 256 + q.val) * 2 + h.val) / 2 % 256 = q.val; omega
    | ⟨2, _⟩ => show ((j.val * 256 + q.val) * 2 + h.val) % 2 = h.val; omega)
  rw [val_main_v7_apply, val_main_v6_apply, e1, val_main_v5_apply, val_main_v4_apply, val_main_v3_apply]
  have e2 : idx_main_v3 (idx_main_v4 (ix3 (⟨j.val / 128, by omega⟩ : Fin 16) q h)) = ix1 (⟨j.val / 128, by omega⟩ : Fin 16) :=
    funext fun a => Fin.ext (by match a with | ⟨0, _⟩ => rfl)
  rw [e2]
  rfl

/-- The even weights. -/
theorem v11 (j : Fin 2048) (n : Fin 14336) : val_main_v11 (F := Ideal) x1 x2 x3 (ix2 j n) = weight x1 x2 x3 0 j n := by
  have hj := j.isLt; have hn := n.isLt
  unfold val_main_v11
  rw [gather_apply _ _ j n (code (x1 (ix2 j n))) ?_]
  · have hq := (code (x1 (ix2 j n))).isLt
    rw [val_main_v10_apply, val_main_v9_apply]
    refine Eq.trans (congrArg (val_main_v7 (F := Ideal) x2 x3) (funext fun a => Fin.ext ?_)) (v7 x2 x3 j (code (x1 (ix2 j n))) 0)
    match a with
    | ⟨0, _⟩ => show (j.val * 256 + (code (x1 (ix2 j n))).val) / 256 = j.val; omega
    | ⟨1, _⟩ => show (j.val * 256 + (code (x1 (ix2 j n))).val) / 1 % 256 = (code (x1 (ix2 j n))).val; omega
    | ⟨2, _⟩ => rfl
  · rw [val_main_call0_v6_apply]
    have e : idx_main_call0_v6 (ix3 j n (0 : Fin 1)) = ix2 j n := funext fun a => Fin.ext (by
      match a with
      | ⟨0, _⟩ => show ((j.val * 14336 + n.val) * 1 + 0) / 14336 = j.val; omega
      | ⟨1, _⟩ => show ((j.val * 14336 + n.val) * 1 + 0) % 14336 = n.val; omega)
    rw [e, val_main_call0_v5_apply, val_main_call0_v2_apply, val_main_call0_v4_apply, val_main_call0_v1_apply, val_main_call0_v3_apply]
    exact index_eq (x1 (ix2 j n))

/-- The odd weights. -/
theorem v14 (j : Fin 2048) (n : Fin 14336) : val_main_v14 (F := Ideal) x1 x2 x3 (ix2 j n) = weight x1 x2 x3 1 j n := by
  have hj := j.isLt; have hn := n.isLt
  unfold val_main_v14
  rw [gather_apply _ _ j n (code (x1 (ix2 j n))) ?_]
  · have hq := (code (x1 (ix2 j n))).isLt
    rw [val_main_v13_apply, val_main_v12_apply]
    refine Eq.trans (congrArg (val_main_v7 (F := Ideal) x2 x3) (funext fun a => Fin.ext ?_)) (v7 x2 x3 j (code (x1 (ix2 j n))) 1)
    match a with
    | ⟨0, _⟩ => show (j.val * 256 + (code (x1 (ix2 j n))).val) / 256 = j.val; omega
    | ⟨1, _⟩ => show (j.val * 256 + (code (x1 (ix2 j n))).val) / 1 % 256 = (code (x1 (ix2 j n))).val; omega
    | ⟨2, _⟩ => rfl
  · rw [val_main_call1_v6_apply]
    have e : idx_main_call1_v6 (ix3 j n (0 : Fin 1)) = ix2 j n := funext fun a => Fin.ext (by
      match a with
      | ⟨0, _⟩ => show ((j.val * 14336 + n.val) * 1 + 0) / 14336 = j.val; omega
      | ⟨1, _⟩ => show ((j.val * 14336 + n.val) * 1 + 0) % 14336 = n.val; omega)
    rw [e, val_main_call1_v5_apply, val_main_call1_v2_apply, val_main_call1_v4_apply, val_main_call1_v1_apply, val_main_call1_v3_apply]
    exact index_eq (x1 (ix2 j n))

/-- The columns of the input, paired. -/
theorem v15 (r : Fin 6144) (j : Fin 2048) (h : Fin 2) : val_main_v15 (F := Ideal) x0 (ix3 r j h) = input x0 r j h := by
  have hr := r.isLt; have hj := j.isLt; have hh := h.isLt
  rw [val_main_v15_apply]
  refine congrArg x0 (funext fun a => Fin.ext ?_)
  match a with
  | ⟨0, _⟩ => show ((r.val * 2048 + j.val) * 2 + h.val) / 6291456 = r.val / 1536; omega
  | ⟨1, _⟩ => show ((r.val * 2048 + j.val) * 2 + h.val) / 4096 % 1536 = r.val % 1536; omega
  | ⟨2, _⟩ => show ((r.val * 2048 + j.val) * 2 + h.val) % 4096 = 2 * j.val + h.val; omega

/-- The even columns of the input. -/
theorem v17 (r : Fin 6144) (j : Fin 2048) : val_main_v17 (F := Ideal) x0 (ix2 r j) = input x0 r j 0 := by
  have hr := r.isLt; have hj := j.isLt
  rw [val_main_v17_apply, val_main_v16_apply]
  refine Eq.trans (congrArg (val_main_v15 (F := Ideal) x0) (funext fun a => Fin.ext ?_)) (v15 x0 r j 0)
  match a with
  | ⟨0, _⟩ => show (r.val * 2048 + j.val) / 2048 = r.val; omega
  | ⟨1, _⟩ => show (r.val * 2048 + j.val) / 1 % 2048 = j.val; omega
  | ⟨2, _⟩ => rfl

/-- The odd columns of the input. -/
theorem v20 (r : Fin 6144) (j : Fin 2048) : val_main_v20 (F := Ideal) x0 (ix2 r j) = input x0 r j 1 := by
  have hr := r.isLt; have hj := j.isLt
  rw [val_main_v20_apply, val_main_v19_apply]
  refine Eq.trans (congrArg (val_main_v15 (F := Ideal) x0) (funext fun a => Fin.ext ?_)) (v15 x0 r j 1)
  match a with
  | ⟨0, _⟩ => show (r.val * 2048 + j.val) / 2048 = r.val; omega
  | ⟨1, _⟩ => show (r.val * 2048 + j.val) / 1 % 2048 = j.val; omega
  | ⟨2, _⟩ => rfl

/-- The reference's result at row `r`, column `n`. -/
theorem v26 (r : Fin 6144) (n : Fin 14336) : val_main_v26 (F := Ideal) x0 x1 x2 x3 x4 (ix2 r n) = result x0 x1 x2 x3 x4 r n := by
  have l18 : ∀ k, lidx_main_v18 (ix2 r n) k = ix2 r k := fun k => funext fun a => Fin.ext (by match a with | ⟨0, _⟩ => rfl | ⟨1, _⟩ => rfl)
  have r18 : ∀ k, ridx_main_v18 (ix2 r n) k = ix2 k n := fun k => funext fun a => Fin.ext (by match a with | ⟨0, _⟩ => rfl | ⟨1, _⟩ => rfl)
  have l21 : ∀ k, lidx_main_v21 (ix2 r n) k = ix2 r k := fun k => funext fun a => Fin.ext (by match a with | ⟨0, _⟩ => rfl | ⟨1, _⟩ => rfl)
  have r21 : ∀ k, ridx_main_v21 (ix2 r n) k = ix2 k n := fun k => funext fun a => Fin.ext (by match a with | ⟨0, _⟩ => rfl | ⟨1, _⟩ => rfl)
  have e4 : idx_main_v23 (idx_main_v24 (ix2 r n)) = ix1 n := funext fun a => Fin.ext (by match a with | ⟨0, _⟩ => rfl)
  rw [val_main_v26_apply, val_main_v25_apply, val_main_v22_apply, val_main_v24_apply, val_main_v23_apply, e4,
    val_main_v18_apply, val_main_v21_apply]
  simp only [l18, r18, l21, r21, v17, v20, v11, v14]
  rfl

end Cert.ReferenceIdeal.Result

end
-- ==== Proof.Equation.lean ====
/-
  The equation: the kernel's ideal reading and the reference's leave the same array, element by element.
-/
module

public import proofs.«01_k».proof.Defs
public import proofs.«01_k».proof.Proof.Sweep
public import proofs.«01_k».proof.Proof.Product
public import proofs.«01_k».proof.Proof.Reference
public import proofs.«01_k».proof.Proof.Gen.KernelIdeal.Value
public import proofs.«01_k».proof.Proof.Gen.ReferenceIdeal.Run
public import Idealize.ShloMosaic.Lib.Claim

@[expose] public section

set_option maxRecDepth 16384

noncomputable section

namespace Cert.KernelIdeal.Equation

open Cert.KernelIdeal Cert.KernelIdeal.Gen Cert.KernelIdeal.Weights Cert.KernelIdeal.Blocks Cert.KernelIdeal.Sweep
open Cert.ReferenceIdeal.Result
open Idealize.ShloMosaic hiding ix1 ix2 ix3 eq_ix2
open Idealize.ShloMosaic.TcCoe Idealize.ShloMosaic.ValueIdx Idealize.SL.Sem
open scoped BigOperators

variable (m : (ℓ : Loc nD τ sig) → Buf (Elt Ideal) ℓ) (c : Dev nD)

/-- An entry of the table is the reference's scaled code. -/
theorem table_eq (b : Fin 16) (h : Fin 2) (q : Fin 256) : table m c (ix3 b h q)
    = entry (m ((c : Thread nD τ).loc main_arg2)) (m ((c : Thread nD τ).loc main_arg3)) b q h := by
  unfold table
  refine (Product.table_apply _ _ b h q).trans ?_
  refine congrArg₂ (FloatOps.mulf (F := Ideal) (φ := .f32)) (congrArg (fun z : BitVec 8 => FloatOps.sitofp (F := Ideal) .f32 (BitVec.signExtend 32 z)) ?_) ?_
  · exact iblk2 m c _ b h q
  · exact iblk3 m c _ b 0

/-- The weights of point `t` are the reference's, at the columns of the point's tile. -/
theorem weights_eq (t : Fin cfg0.N) (j : Fin 2048) (h : Fin 2) (l : Fin 512) : weights (table m c) (iblk m c 1 t) (ix3 j h l)
    = weight (m ((c : Thread nD τ).loc main_arg1)) (m ((c : Thread nD τ).loc main_arg2)) (m ((c : Thread nD τ).loc main_arg3)) h j
        ⟨512 * (t.val / 6) + l.val, by have := l.isLt; have := lt_N t; omega⟩ := by
  refine (table_eq m c ⟨j.val / 128, _⟩ h (code (iblk m c 1 t (ix2 j l)))).trans ?_
  unfold weight
  rw [show code (iblk m c 1 t (ix2 j l)) = _ from congrArg code (iblk1 m c t j l)]

/-- The element that point `t` stores at place `(r, l)` of its block is the reference's at the row and the column of the place. -/
theorem left_eq (t : Fin cfg0.N) (r : Fin 1024) (l : Fin 512) : (left m c t).1 (ix2 r l)
    = result (m ((c : Thread nD τ).loc main_arg0)) (m ((c : Thread nD τ).loc main_arg1)) (m ((c : Thread nD τ).loc main_arg2))
        (m ((c : Thread nD τ).loc main_arg3)) (m ((c : Thread nD τ).loc main_arg4))
        ⟨1024 * (t.val % 6) + r.val, by have := r.isLt; omega⟩ ⟨512 * (t.val / 6) + l.val, by have := l.isLt; have := lt_N t; omega⟩ := by
  have hx : ∀ (j : Fin 2048) (h : Fin 2), iblk m c 0 t (ix2 r ⟨j.val * 2 + h.val, by have := j.isLt; have := h.isLt; omega⟩)
      = input (m ((c : Thread nD τ).loc main_arg0)) ⟨1024 * (t.val % 6) + r.val, by have := r.isLt; omega⟩ j h := fun j h => by
    refine (iblk0 m c t r _).trans ?_
    unfold input
    refine congrArg (m ((c : Thread nD τ).loc main_arg0)) (congrArg (ix3 _ _) (Fin.ext ?_))
    show j.val * 2 + h.val = 2 * j.val + h.val
    omega
  refine (Product.block_apply _ _ _ r l).trans ?_
  unfold result
  refine congrArg₂ (fun u v : EReal => u * v) (congrArg₂ (fun u v : EReal => u + v) ?_ ?_) (iblk4 m c t 0 l)
  · exact Finset.sum_congr rfl fun j _ => congrArg₂ (fun u v : EReal => u * v) (hx j 0) (weights_eq m c t j 0 l)
  · exact Finset.sum_congr rfl fun j _ => congrArg₂ (fun u v : EReal => u * v) (hx j 1) (weights_eq m c t j 1 l)

/-- The kernel's array after the run, at row `r`, column `n`. -/
theorem array_eq (r : Fin 6144) (n : Fin 14336) : Value.G5 m c (ix2 r n)
    = result (m ((c : Thread nD τ).loc main_arg0)) (m ((c : Thread nD τ).loc main_arg1)) (m ((c : Thread nD τ).loc main_arg2))
        (m ((c : Thread nD τ).loc main_arg3)) (m ((c : Thread nD τ).loc main_arg4)) r n := by
  have hr := r.isLt; have hn := n.isLt
  have hp : Value.pt5Of (ix2 r n) = r.val / 1024 + 6 * (n.val / 512) := by
    show 1 * (r.val / 1024 - 0) + 6 * (n.val / 512 - 0) = _; omega
  have ht : Value.pt5Of (ix2 r n) < cfg0.N := lt_of_lt_of_eq (by rw [hp]; omega) N_0.symm
  unfold Value.G5
  rw [dif_pos ht, ← Value.outsAt0_sweep m c (Value.pt5Of (ix2 r n)) ht, outs]
  have hl : Value.loc5Of (ix2 r n) = ix2 (⟨r.val % 1024, by omega⟩ : Fin 1024) (⟨n.val % 512, by omega⟩ : Fin 512) :=
    funext fun a => Fin.ext (by match a with | ⟨0, _⟩ => rfl | ⟨1, _⟩ => rfl)
  rw [hl]
  refine (left_eq m c ⟨Value.pt5Of (ix2 r n), ht⟩ _ _).trans ?_
  refine congrArg₂ (result _ _ _ _ _) (Fin.ext ?_) (Fin.ext ?_)
  · show 1024 * (Value.pt5Of (ix2 r n) % 6) + r.val % 1024 = r.val
    rw [hp]; omega
  · show 512 * (Value.pt5Of (ix2 r n) / 6) + n.val % 512 = n.val
    rw [hp]; omega

end Cert.KernelIdeal.Equation

namespace Cert.Proof

open Idealize.ShloMosaic hiding ix1 ix2 ix3 eq_ix2
open Idealize.ShloMosaic.ValueIdx Idealize.SL.Sem

/-- From equal arguments, the kernel's ideal reading and the reference's end with equal results. -/
theorem algebraic : Cert.algebraic_KernelIdeal_ReferenceIdeal := by
  pair_intro
  · run_from Cert.KernelIdeal.Value.run m g
  · run_from Cert.ReferenceIdeal.Value.run m' g'
    funext i
    rw [ValueIdx.eq_ix2 i]
    refine Eq.trans ?_ (Cert.KernelIdeal.Equation.array_eq m c (i 0) (i 1)).symm
    exact Cert.ReferenceIdeal.Result.v26 _ _ _ _ _ (i 0) (i 1)

end Cert.Proof

end
-- ==== Proof.lean ====
/-
  The certificate, assembled: the witnesses of the programs' facts, the three frames and the preservation (Proof/Claims),
  and the equation of the two ideal programs (Proof/Equation).
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Claims
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The certificate: the three programs run without fault and leave their arguments unchanged, the ideal kernel is the kernel
    over the extended reals, and it computes the same array as the ideal reference. -/
theorem claim : Cert.Claim :=
  ⟨Cert.Kernel.Gen.facts, Cert.KernelIdeal.Gen.facts, Cert.ReferenceIdeal.Gen.facts,
    frame_p, frame_pi, frame_ri, preserves, algebraic⟩

end Cert.Proof

end
